-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_patches_apart [hPre_patches_apart : Cert.Pre_patches_apart.Facts] (m : (ℓ : Loc Cert.KernelIdeal.nD Cert.KernelIdeal.τ Cert.KernelIdeal.sig) → Buf (Elt Ideal) ℓ) : Prop :=
  ∀ c : Dev Cert.KernelIdeal.nD,
    (Cert.Pre_patches_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_patches_apart [hPre_patches_apart : Cert.Pre_patches_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_patches_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_patches_apart [hKernelIdeal : Cert.KernelIdeal.Facts] [hPre_patches_apart : Cert.Pre_patches_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_patches_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_patches_apart [hReferenceIdeal : Cert.ReferenceIdeal.Facts] [hPre_patches_apart : Cert.Pre_patches_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_patches_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "far" .f32 0x7149F2CA#32 ⊤

def algebraic_KernelIdeal_ReferenceIdeal_pre_patches_apart [hKernelIdeal : Cert.KernelIdeal.Facts] [hReferenceIdeal : Cert.ReferenceIdeal.Facts] [hPre_patches_apart : Cert.Pre_patches_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_patches_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_patches_apart : Cert.Pre_patches_apart.Facts),
    quiescent_Kernel (hKernel := hKernel)
    ∧ quiescent_KernelIdeal (hKernelIdeal := hKernelIdeal)
    ∧ quiescent_KernelIdeal_pre_patches_apart (hKernelIdeal := hKernelIdeal) (hPre_patches_apart := hPre_patches_apart)
    ∧ quiescent_ReferenceIdeal (hReferenceIdeal := hReferenceIdeal)
    ∧ quiescent_ReferenceIdeal_pre_patches_apart (hReferenceIdeal := hReferenceIdeal) (hPre_patches_apart := hPre_patches_apart)
    ∧ preserves_Kernel_KernelIdeal
    ∧ algebraic_KernelIdeal_ReferenceIdeal_pre_patches_apart (hKernelIdeal := hKernelIdeal) (hReferenceIdeal := hReferenceIdeal) (hPre_patches_apart := hPre_patches_apart)
-- ==== Pre_patches_apart.lean ====
abbrev S64x3x2048 : Shape := ⟨3, ![64, 3, 2048]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩
abbrev S64x2048x3 : Shape := ⟨3, ![64, 2048, 3]⟩
abbrev S64x2048 : Shape := ⟨2, ![64, 2048]⟩
abbrev S64x1 : Shape := ⟨2, ![64, 1]⟩
abbrev S64x2 : Shape := ⟨2, ![64, 2]⟩
abbrev S64x3 : Shape := ⟨2, ![64, 3]⟩
abbrev S64x1x3 : Shape := ⟨3, ![64, 1, 3]⟩
abbrev S64x4 : Shape := ⟨2, ![64, 4]⟩
abbrev S64x4x1 : Shape := ⟨3, ![64, 4, 1]⟩
abbrev S64x4x2 : Shape := ⟨3, ![64, 4, 2]⟩
abbrev S64x4x3 : Shape := ⟨3, ![64, 4, 3]⟩
abbrev S64x4x1x3 : Shape := ⟨4, ![64, 4, 1, 3]⟩
abbrev S64x1x2048x3 : Shape := ⟨4, ![64, 1, 2048, 3]⟩
abbrev S64x4x2048x3 : Shape := ⟨4, ![64, 4, 2048, 3]⟩
abbrev S64x4x2048 : Shape := ⟨3, ![64, 4, 2048]⟩
abbrev S64x4x256 : Shape := ⟨3, ![64, 4, 256]⟩

class Facts : Prop where
  transposes_S64x3x2048_S64x2048x3_0_2_1 : S64x3x2048.Transposes [0, 2, 1] S64x2048x3
  bcast_S_S64 : S_.BroadcastsInDim S64 (![] : Fin 0 → Fin S64.rank)
  bcast_S_S64x2048 : S_.BroadcastsInDim S64x2048 (![] : Fin 0 → Fin S64x2048.rank)
  bcast_S64_S64x1_0 : S64.BroadcastsInDim S64x1 (![0] : Fin 1 → Fin S64x1.rank)
  concatenates_S64x1_S64x1_S64x2_d1 : Shape.Concatenates [S64x1, S64x1] S64x2 1
  bcast_S64x3_S64x1x3_0_2 : S64x3.BroadcastsInDim S64x1x3 (![0, 2] : Fin 2 → Fin S64x1x3.rank)
  bcast_S64x1x3_S64x2048x3_0_1_2 : S64x1x3.BroadcastsInDim S64x2048x3 (![0, 1, 2] : Fin 3 → Fin S64x2048x3.rank)
  reducesTo_S64x2048x3_S64x2048_d2 : S64x2048x3.ReducesTo [2] S64x2048
  h_S_ : 0 < S_.numel
  sliceFits_S64x2048_S64x1 : S64x2048.Slices (fun _ => 0) S64x1
  shapeCasts_S64x1_S64 : S64x1.ShapeCasts S64
  concatenates_S64x1_S64x1_S64x1_S64x1_S64x4_d1 : Shape.Concatenates [S64x1, S64x1, S64x1, S64x1] S64x4 1
  bcast_S_S64x1 : S_.BroadcastsInDim S64x1 (![] : Fin 0 → Fin S64x1.rank)
  bcast_S_S64x4 : S_.BroadcastsInDim S64x4 (![] : Fin 0 → Fin S64x4.rank)
  bcast_S64x1_S64x4_0_1 : S64x1.BroadcastsInDim S64x4 (![0, 1] : Fin 2 → Fin S64x4.rank)
  bcast_S64x4_S64x4x1_0_1 : S64x4.BroadcastsInDim S64x4x1 (![0, 1] : Fin 2 → Fin S64x4x1.rank)
  concatenates_S64x4x1_S64x4x1_S64x4x2_d2 : Shape.Concatenates [S64x4x1, S64x4x1] S64x4x2 2
  bcast_S64x4x3_S64x4x1x3_0_1_3 : S64x4x3.BroadcastsInDim S64x4x1x3 (![0, 1, 3] : Fin 3 → Fin S64x4x1x3.rank)
  bcast_S64x2048x3_S64x1x2048x3_0_2_3 : S64x2048x3.BroadcastsInDim S64x1x2048x3 (![0, 2, 3] : Fin 3 → Fin S64x1x2048x3.rank)
  bcast_S64x4x1x3_S64x4x2048x3_0_1_2_3 : S64x4x1x3.BroadcastsInDim S64x4x2048x3 (![0, 1, 2, 3] : Fin 4 → Fin S64x4x2048x3.rank)
  bcast_S64x1x2048x3_S64x4x2048x3_0_1_2_3 : S64x1x2048x3.BroadcastsInDim S64x4x2048x3 (![0, 1, 2, 3] : Fin 4 → Fin S64x4x2048x3.rank)
  reducesTo_S64x4x2048x3_S64x4x2048_d3 : S64x4x2048x3.ReducesTo [3] S64x4x2048
  sliceFits_S64x4x2048_S64x4x256 : S64x4x2048.Slices (fun _ => 0) S64x4x256
  slices_S64x4x256_S64x4x1_0_0_255 : S64x4x256.Slices ![0, 0, 255] S64x4x1
  reducesTo_S64x4x2048_S64x4_d2 : S64x4x2048.ReducesTo [2] S64x4
  bcast_S_S64x4x1 : S_.BroadcastsInDim S64x4x1 (![] : Fin 0 → Fin S64x4x1.rank)
  bcast_S64x4x1_S64x4x2048_0_1_2 : S64x4x1.BroadcastsInDim S64x4x2048 (![0, 1, 2] : Fin 3 → Fin S64x4x2048.rank)
  gather_S64x2048x3_S64x2_S64x3_1_01_n_n_01_1_113_wf : GatherDims.WF S64x2048x3 S64x2 S64x3 [1] [0, 1] [] [0, 1] [] 1 ![1, 1, 3]
  gather_S64x2048x3_S64x4x2_S64x4x3_2_01_n_n_01_2_113_wf : GatherDims.WF S64x2048x3 S64x4x2 S64x4x3 [2] [0, 1] [] [0, 1] [] 2 ![1, 1, 3]

variable [Facts]

def gather_S64x2048x3_S64x2_S64x3_1_01_n_n_01_1_113 : GatherDims S64x2048x3 S64x2 S64x3 where
  offsetDims := [1]
  collapsedSliceDims := [0, 1]
  operandBatchingDims := []
  startIndicesBatchingDims := []
  startIndexMap := [0, 1]
  indexVectorDim := 1
  sliceSizes := ![1, 1, 3]
  wf := gather_S64x2048x3_S64x2_S64x3_1_01_n_n_01_1_113_wf
def gather_S64x2048x3_S64x4x2_S64x4x3_2_01_n_n_01_2_113 : GatherDims S64x2048x3 S64x4x2 S64x4x3 where
  offsetDims := [2]
  collapsedSliceDims := [0, 1]
  operandBatchingDims := []
  startIndicesBatchingDims := []
  startIndexMap := [0, 1]
  indexVectorDim := 2
  sliceSizes := ![1, 1, 3]
  wf := gather_S64x2048x3_S64x4x2_S64x4x3_2_01_n_n_01_2_113_wf
def fn_part6 {F : FTy → Type} [FloatOps F] (main_v109 : FVec F S64x4x2048 .f32) (main_v110 : FVec F S64x4x2048 .f32) (main_values_28 : FVec F S64x4x256 .f32) : IVec S64x4 1 :=
  let main_indices_29 : IVec S64x4x256 32 := (fun x => (Host.topK S64x4x256 2 (FloatOps.cmpfTotal .gt) x sliceFits_S64x4x2048_S64x4x256).2) main_v110
  let main_v111 : FVec F S64x4x1 .f32 := (extractStridedSlice S64x4x1 ![0, 0, 255] · slices_S64x4x256_S64x4x1_0_0_255) main_values_28
  let main_v112 : FVec F S64x4x1 .f32 := Host.negf main_v111
  let main_cst_30 : FVec F S_ .f32 := constant S_ .f32 0xFF800000#32
  let main_v113 : FVec F S64x4 .f32 := (fun x v => Host.reduce FloatOps.maximumf x v reducesTo_S64x4x2048_S64x4_d2 h_S_) main_v109 main_cst_30
  let main_v114 : FVec F S64x4x1 .f32 := broadcastInDim S64x4x1 ![0, 1] bcast_S64x4_S64x4x1_0_1 main_v113
  let main_cst_31 : FVec F S_ .f32 := constant S_ .f32 0x3F800000#32
  let main_v115 : FVec F S64x4x1 .f32 := broadcastInDim S64x4x1 ![] bcast_S_S64x4x1 main_cst_31
  let main_v116 : FVec F S64x4x1 .f32 := addf main_v114 main_v115
  let main_cst_32 : FVec F S_ .f32 := constant S_ .f32 0x27800000#32
  let main_v117 : FVec F S64x4x1 .f32 := broadcastInDim S64x4x1 ![] bcast_S_S64x4x1 main_cst_32
  let main_v118 : FVec F S64x4x1 .f32 := mulf main_v116 main_v117
  let main_v119 : FVec F S64x4x1 .f32 := addf main_v112 main_v118
  let main_v120 : FVec F S64x4x2048 .f32 := broadcastInDim S64x4x2048 ![0, 1, 2] bcast_S64x4x1_S64x4x2048_0_1_2 main_v119
  let main_v121 : IVec S64x4x2048 1 := cmpf .ole main_v109 main_v120
  let main_v122 : FVec F S64x4x2048 .f32 := uitofp .f32 main_v121
  let main_cst_33 : FVec F S_ .f32 := constant S_ .f32 0x00000000#32
  let main_v123 : FVec F S64x4 .f32 := (fun x v => Host.reduceAdd x v reducesTo_S64x4x2048_S64x4_d2 h_S_) main_v122 main_cst_33
  let main_cst_34 : FVec F S_ .f32 := constant S_ .f32 0x43800000#32
  let main_v124 : FVec F S64x4 .f32 := broadcastInDim S64x4 ![] bcast_S_S64x4 main_cst_34
  let main_v125 : IVec S64x4 1 := cmpf .oeq main_v123 main_v124
  main_v125

def fn_part5 {F : FTy → Type} [FloatOps F] (main_v0 : FVec F S64x2048x3 .f32) (main_v85 : IVec S64x4 32) (main_v87 : IVec S64x1 32) (main_v89 : IVec S64x1 1) (main_v90 : IVec S64x1 32) : IVec S64x4 1 :=
  let main_v91 : IVec S64x1 32 := addi main_v87 main_v90
  let main_v92 : IVec S64x1 32 := select main_v89 main_v91 main_v87
  let main_c_25 : IVec S_ 32 := constantI S_ 32 0#32
  let main_v93 : IVec S64x4 32 := broadcastInDim S64x4 ![] bcast_S_S64x4 main_c_25
  let main_v94 : IVec S64x4 1 := cmpi .slt main_v85 main_v93
  let main_c_26 : IVec S_ 32 := constantI S_ 32 2048#32
  let main_v95 : IVec S64x4 32 := broadcastInDim S64x4 ![] bcast_S_S64x4 main_c_26
  let main_v96 : IVec S64x4 32 := addi main_v85 main_v95
  let main_v97 : IVec S64x4 32 := select main_v94 main_v96 main_v85
  let main_v98 : IVec S64x4 32 := broadcastInDim S64x4 ![0, 1] bcast_S64x1_S64x4_0_1 main_v92
  let main_v99 : IVec S64x4x1 32 := broadcastInDim S64x4x1 ![0, 1] bcast_S64x4_S64x4x1_0_1 main_v98
  let main_v100 : IVec S64x4x1 32 := broadcastInDim S64x4x1 ![0, 1] bcast_S64x4_S64x4x1_0_1 main_v97
  let main_v101 : IVec S64x4x2 32 := (fun a b => concatenate S64x4x2 2 [⟨S64x4x1, a⟩, ⟨S64x4x1, b⟩] concatenates_S64x4x1_S64x4x1_S64x4x2_d2) main_v99 main_v100
  let main_v102 : FVec F S64x4x3 .f32 := (fun x i => Host.gather gather_S64x2048x3_S64x4x2_S64x4x3_2_01_n_n_01_2_113 x i) main_v0 main_v101
  let main_v103 : FVec F S64x4x1x3 .f32 := broadcastInDim S64x4x1x3 ![0, 1, 3] bcast_S64x4x3_S64x4x1x3_0_1_3 main_v102
  let main_v104 : FVec F S64x1x2048x3 .f32 := broadcastInDim S64x1x2048x3 ![0, 2, 3] bcast_S64x2048x3_S64x1x2048x3_0_2_3 main_v0
  let main_v105 : FVec F S64x4x2048x3 .f32 := broadcastInDim S64x4x2048x3 ![0, 1, 2, 3] bcast_S64x4x1x3_S64x4x2048x3_0_1_2_3 main_v103
  let main_v106 : FVec F S64x4x2048x3 .f32 := broadcastInDim S64x4x2048x3 ![0, 1, 2, 3] bcast_S64x1x2048x3_S64x4x2048x3_0_1_2_3 main_v104
  let main_v107 : FVec F S64x4x2048x3 .f32 := subf main_v105 main_v106
  let main_v108 : FVec F S64x4x2048x3 .f32 := mulf main_v107 main_v107
  let main_cst_27 : FVec F S_ .f32 := constant S_ .f32 0x00000000#32
  let main_v109 : FVec F S64x4x2048 .f32 := (fun x v => Host.reduceAdd x v reducesTo_S64x4x2048x3_S64x4x2048_d3 h_S_) main_v108 main_cst_27
  let main_v110 : FVec F S64x4x2048 .f32 := Host.negf main_v109
  let main_values_28 : FVec F S64x4x256 .f32 := (fun x => (Host.topK S64x4x256 2 (FloatOps.cmpfTotal .gt) x sliceFits_S64x4x2048_S64x4x256).1) main_v110
  fn_part6 (F := F) main_v109 main_v110 main_values_28

def fn_part4 {F : FTy → Type} [FloatOps F] (main_v0 : FVec F S64x2048x3 .f32) (main_v1 : IVec S64 32) (main_v2 : IVec S64 32) (main_v24 : IVec S64 32) (main_v45 : IVec S64 32) (main_v66 : IVec S64 32) (main_v68 : IVec S64 1) (main_v70 : IVec S64 32) : IVec S64x4 1 :=
  let main_v71 : IVec S64 32 := select main_v68 main_v70 main_v1
  let main_c_21 : IVec S_ 32 := constantI S_ 32 0#32
  let main_v72 : IVec S64 32 := broadcastInDim S64 ![] bcast_S_S64 main_c_21
  let main_v73 : IVec S64 1 := cmpi .slt main_v66 main_v72
  let main_c_22 : IVec S_ 32 := constantI S_ 32 2048#32
  let main_v74 : IVec S64 32 := broadcastInDim S64 ![] bcast_S_S64 main_c_22
  let main_v75 : IVec S64 32 := addi main_v66 main_v74
  let main_v76 : IVec S64 32 := select main_v73 main_v75 main_v66
  let main_v77 : IVec S64x1 32 := broadcastInDim S64x1 ![0] bcast_S64_S64x1_0 main_v71
  let main_v78 : IVec S64x1 32 := broadcastInDim S64x1 ![0] bcast_S64_S64x1_0 main_v76
  let main_v79 : IVec S64x2 32 := (fun a b => concatenate S64x2 1 [⟨S64x1, a⟩, ⟨S64x1, b⟩] concatenates_S64x1_S64x1_S64x2_d1) main_v77 main_v78
  let main_v80 : FVec F S64x3 .f32 := (fun x i => Host.gather gather_S64x2048x3_S64x2_S64x3_1_01_n_n_01_1_113 x i) main_v0 main_v79
  let main_v81 : IVec S64x1 32 := broadcastInDim S64x1 ![0] bcast_S64_S64x1_0 main_v2
  let main_v82 : IVec S64x1 32 := broadcastInDim S64x1 ![0] bcast_S64_S64x1_0 main_v24
  let main_v83 : IVec S64x1 32 := broadcastInDim S64x1 ![0] bcast_S64_S64x1_0 main_v45
  let main_v84 : IVec S64x1 32 := broadcastInDim S64x1 ![0] bcast_S64_S64x1_0 main_v66
  let main_v85 : IVec S64x4 32 := concatenate S64x4 1 [⟨S64x1, main_v81⟩, ⟨S64x1, main_v82⟩, ⟨S64x1, main_v83⟩, ⟨S64x1, main_v84⟩] concatenates_S64x1_S64x1_S64x1_S64x1_S64x4_d1
  let main_v86 : IVec S64 32 := iotaInDim S64 32 0
  let main_v87 : IVec S64x1 32 := broadcastInDim S64x1 ![0] bcast_S64_S64x1_0 main_v86
  let main_c_23 : IVec S_ 32 := constantI S_ 32 0#32
  let main_v88 : IVec S64x1 32 := broadcastInDim S64x1 ![] bcast_S_S64x1 main_c_23
  let main_v89 : IVec S64x1 1 := cmpi .slt main_v87 main_v88
  let main_c_24 : IVec S_ 32 := constantI S_ 32 64#32
  let main_v90 : IVec S64x1 32 := broadcastInDim S64x1 ![] bcast_S_S64x1 main_c_24
  fn_part5 (F := F) main_v0 main_v85 main_v87 main_v89 main_v90

def fn_part3 {F : FTy → Type} [FloatOps F] (main_v0 : FVec F S64x2048x3 .f32) (main_v1 : IVec S64 32) (main_v2 : IVec S64 32) (main_v24 : IVec S64 32) (main_v44 : FVec F S64x2048 .f32) (main_v45 : IVec S64 32) (main_v50 : IVec S64 32) (main_v52 : IVec S64 1) : IVec S64x4 1 :=
  let main_c_15 : IVec S_ 32 := constantI S_ 32 2048#32
  let main_v53 : IVec S64 32 := broadcastInDim S64 ![] bcast_S_S64 main_c_15
  let main_v54 : IVec S64 32 := addi main_v45 main_v53
  let main_v55 : IVec S64 32 := select main_v52 main_v54 main_v45
  let main_v56 : IVec S64x1 32 := broadcastInDim S64x1 ![0] bcast_S64_S64x1_0 main_v50
  let main_v57 : IVec S64x1 32 := broadcastInDim S64x1 ![0] bcast_S64_S64x1_0 main_v55
  let main_v58 : IVec S64x2 32 := (fun a b => concatenate S64x2 1 [⟨S64x1, a⟩, ⟨S64x1, b⟩] concatenates_S64x1_S64x1_S64x2_d1) main_v56 main_v57
  let main_v59 : FVec F S64x3 .f32 := (fun x i => Host.gather gather_S64x2048x3_S64x2_S64x3_1_01_n_n_01_1_113 x i) main_v0 main_v58
  let main_v60 : FVec F S64x1x3 .f32 := broadcastInDim S64x1x3 ![0, 2] bcast_S64x3_S64x1x3_0_2 main_v59
  let main_v61 : FVec F S64x2048x3 .f32 := broadcastInDim S64x2048x3 ![0, 1, 2] bcast_S64x1x3_S64x2048x3_0_1_2 main_v60
  let main_v62 : FVec F S64x2048x3 .f32 := subf main_v0 main_v61
  let main_v63 : FVec F S64x2048x3 .f32 := mulf main_v62 main_v62
  let main_cst_16 : FVec F S_ .f32 := constant S_ .f32 0x00000000#32
  let main_v64 : FVec F S64x2048 .f32 := (fun x v => Host.reduceAdd x v reducesTo_S64x2048x3_S64x2048_d2 h_S_) main_v63 main_cst_16
  let main_v65 : FVec F S64x2048 .f32 := minimumf main_v44 main_v64
  let main_values_17 : FVec F S64x1 .f32 := (fun x => (Host.topK S64x1 1 (FloatOps.cmpfTotal .gt) x sliceFits_S64x2048_S64x1).1) main_v65
  let main_indices_18 : IVec S64x1 32 := (fun x => (Host.topK S64x1 1 (FloatOps.cmpfTotal .gt) x sliceFits_S64x2048_S64x1).2) main_v65
  let main_v66 : IVec S64 32 := shapeCast S64 main_indices_18 shapeCasts_S64x1_S64
  let main_c_19 : IVec S_ 32 := constantI S_ 32 0#32
  let main_v67 : IVec S64 32 := broadcastInDim S64 ![] bcast_S_S64 main_c_19
  let main_v68 : IVec S64 1 := cmpi .slt main_v1 main_v67
  let main_c_20 : IVec S_ 32 := constantI S_ 32 64#32
  let main_v69 : IVec S64 32 := broadcastInDim S64 ![] bcast_S_S64 main_c_20
  let main_v70 : IVec S64 32 := addi main_v1 main_v69
  fn_part4 (F := F) main_v0 main_v1 main_v2 main_v24 main_v45 main_v66 main_v68 main_v70

def fn_part2 {F : FTy → Type} [FloatOps F] (main_v0 : FVec F S64x2048x3 .f32) (main_v1 : IVec S64 32) (main_v2 : IVec S64 32) (main_v23 : FVec F S64x2048 .f32) (main_v24 : IVec S64 32) (main_v29 : IVec S64 32) (main_v34 : IVec S64 32) : IVec S64x4 1 :=
  let main_v35 : IVec S64x1 32 := broadcastInDim S64x1 ![0] bcast_S64_S64x1_0 main_v29
  let main_v36 : IVec S64x1 32 := broadcastInDim S64x1 ![0] bcast_S64_S64x1_0 main_v34
  let main_v37 : IVec S64x2 32 := (fun a b => concatenate S64x2 1 [⟨S64x1, a⟩, ⟨S64x1, b⟩] concatenates_S64x1_S64x1_S64x2_d1) main_v35 main_v36
  let main_v38 : FVec F S64x3 .f32 := (fun x i => Host.gather gather_S64x2048x3_S64x2_S64x3_1_01_n_n_01_1_113 x i) main_v0 main_v37
  let main_v39 : FVec F S64x1x3 .f32 := broadcastInDim S64x1x3 ![0, 2] bcast_S64x3_S64x1x3_0_2 main_v38
  let main_v40 : FVec F S64x2048x3 .f32 := broadcastInDim S64x2048x3 ![0, 1, 2] bcast_S64x1x3_S64x2048x3_0_1_2 main_v39
  let main_v41 : FVec F S64x2048x3 .f32 := subf main_v0 main_v40
  let main_v42 : FVec F S64x2048x3 .f32 := mulf main_v41 main_v41
  let main_cst_9 : FVec F S_ .f32 := constant S_ .f32 0x00000000#32
  let main_v43 : FVec F S64x2048 .f32 := (fun x v => Host.reduceAdd x v reducesTo_S64x2048x3_S64x2048_d2 h_S_) main_v42 main_cst_9
  let main_v44 : FVec F S64x2048 .f32 := minimumf main_v23 main_v43
  let main_values_10 : FVec F S64x1 .f32 := (fun x => (Host.topK S64x1 1 (FloatOps.cmpfTotal .gt) x sliceFits_S64x2048_S64x1).1) main_v44
  let main_indices_11 : IVec S64x1 32 := (fun x => (Host.topK S64x1 1 (FloatOps.cmpfTotal .gt) x sliceFits_S64x2048_S64x1).2) main_v44
  let main_v45 : IVec S64 32 := shapeCast S64 main_indices_11 shapeCasts_S64x1_S64
  let main_c_12 : IVec S_ 32 := constantI S_ 32 0#32
  let main_v46 : IVec S64 32 := broadcastInDim S64 ![] bcast_S_S64 main_c_12
  let main_v47 : IVec S64 1 := cmpi .slt main_v1 main_v46
  let main_c_13 : IVec S_ 32 := constantI S_ 32 64#32
  let main_v48 : IVec S64 32 := broadcastInDim S64 ![] bcast_S_S64 main_c_13
  let main_v49 : IVec S64 32 := addi main_v1 main_v48
  let main_v50 : IVec S64 32 := select main_v47 main_v49 main_v1
  let main_c_14 : IVec S_ 32 := constantI S_ 32 0#32
  let main_v51 : IVec S64 32 := broadcastInDim S64 ![] bcast_S_S64 main_c_14
  let main_v52 : IVec S64 1 := cmpi .slt main_v45 main_v51
  fn_part3 (F := F) main_v0 main_v1 main_v2 main_v24 main_v44 main_v45 main_v50 main_v52

def fn_part1 {F : FTy → Type} [FloatOps F] (main_v0 : FVec F S64x2048x3 .f32) (main_v1 : IVec S64 32) (main_v2 : IVec S64 32) (main_v3 : FVec F S64x2048 .f32) (main_v17 : FVec F S64x3 .f32) : IVec S64x4 1 :=
  let main_v18 : FVec F S64x1x3 .f32 := broadcastInDim S64x1x3 ![0, 2] bcast_S64x3_S64x1x3_0_2 main_v17
  let main_v19 : FVec F S64x2048x3 .f32 := broadcastInDim S64x2048x3 ![0, 1, 2] bcast_S64x1x3_S64x2048x3_0_1_2 main_v18
  let main_v20 : FVec F S64x2048x3 .f32 := subf main_v0 main_v19
  let main_v21 : FVec F S64x2048x3 .f32 := mulf main_v20 main_v20
  let main_cst_4 : FVec F S_ .f32 := constant S_ .f32 0x00000000#32
  let main_v22 : FVec F S64x2048 .f32 := (fun x v => Host.reduceAdd x v reducesTo_S64x2048x3_S64x2048_d2 h_S_) main_v21 main_cst_4
  let main_v23 : FVec F S64x2048 .f32 := minimumf main_v3 main_v22
  let main_values : FVec F S64x1 .f32 := (fun x => (Host.topK S64x1 1 (FloatOps.cmpfTotal .gt) x sliceFits_S64x2048_S64x1).1) main_v23
  let main_indices : IVec S64x1 32 := (fun x => (Host.topK S64x1 1 (FloatOps.cmpfTotal .gt) x sliceFits_S64x2048_S64x1).2) main_v23
  let main_v24 : IVec S64 32 := shapeCast S64 main_indices shapeCasts_S64x1_S64
  let main_c_5 : IVec S_ 32 := constantI S_ 32 0#32
  let main_v25 : IVec S64 32 := broadcastInDim S64 ![] bcast_S_S64 main_c_5
  let main_v26 : IVec S64 1 := cmpi .slt main_v1 main_v25
  let main_c_6 : IVec S_ 32 := constantI S_ 32 64#32
  let main_v27 : IVec S64 32 := broadcastInDim S64 ![] bcast_S_S64 main_c_6
  let main_v28 : IVec S64 32 := addi main_v1 main_v27
  let main_v29 : IVec S64 32 := select main_v26 main_v28 main_v1
  let main_c_7 : IVec S_ 32 := constantI S_ 32 0#32
  let main_v30 : IVec S64 32 := broadcastInDim S64 ![] bcast_S_S64 main_c_7
  let main_v31 : IVec S64 1 := cmpi .slt main_v24 main_v30
  let main_c_8 : IVec S_ 32 := constantI S_ 32 2048#32
  let main_v32 : IVec S64 32 := broadcastInDim S64 ![] bcast_S_S64 main_c_8
  let main_v33 : IVec S64 32 := addi main_v24 main_v32
  let main_v34 : IVec S64 32 := select main_v31 main_v33 main_v24
  fn_part2 (F := F) main_v0 main_v1 main_v2 main_v23 main_v24 main_v29 main_v34

def fn {F : FTy → Type} [FloatOps F] (main_arg0 : FVec F S64x3x2048 .f32) (main_arg1 : FVec F S3x64 .f32) (main_arg2 : FVec F S64 .f32) (main_arg3 : FVec F S64x64 .f32) (main_arg4 : FVec F S64 .f32) (main_arg5 : FVec F S64x64 .f32) (main_arg6 : FVec F S64 .f32) (main_arg7 : FVec F S64x128 .f32) (main_arg8 : FVec F S128 .f32) (main_arg9 : FVec F S128x128 .f32) (main_arg10 : FVec F S128 .f32) (main_arg11 : FVec F S128x256 .f32) (main_arg12 : FVec F S256 .f32) (main_arg13 : FVec F S256x256 .f32) (main_arg14 : FVec F S256 .f32) (main_arg15 : FVec F S256x256 .f32) (main_arg16 : FVec F S256 .f32) (main_arg17 : FVec F S256x48 .f32) (main_arg18 : FVec F S48 .f32) (main_arg19 : FVec F S_ .f32) : IVec S64x4 1 :=
  let main_v0 : FVec F S64x2048x3 .f32 := (transpose S64x2048x3 [0, 2, 1] · transposes_S64x3x2048_S64x2048x3_0_2_1) main_arg0
  let main_v1 : IVec S64 32 := iotaInDim S64 32 0
  let main_c : IVec S_ 32 := constantI S_ 32 0#32
  let main_v2 : IVec S64 32 := broadcastInDim S64 ![] bcast_S_S64 main_c
  let main_cst : FVec F S_ .f32 := constant S_ .f32 0x501502F9#32
  let main_v3 : FVec F S64x2048 .f32 := broadcastInDim S64x2048 ![] bcast_S_S64x2048 main_cst
  let main_c_0 : IVec S_ 32 := constantI S_ 32 0#32
  let main_v4 : IVec S64 32 := broadcastInDim S64 ![] bcast_S_S64 main_c_0
  let main_v5 : IVec S64 1 := cmpi .slt main_v1 main_v4
  let main_c_1 : IVec S_ 32 := constantI S_ 32 64#32
  let main_v6 : IVec S64 32 := broadcastInDim S64 ![] bcast_S_S64 main_c_1
  let main_v7 : IVec S64 32 := addi main_v1 main_v6
  let main_v8 : IVec S64 32 := select main_v5 main_v7 main_v1
  let main_c_2 : IVec S_ 32 := constantI S_ 32 0#32
  let main_v9 : IVec S64 32 := broadcastInDim S64 ![] bcast_S_S64 main_c_2
  let main_v10 : IVec S64 1 := cmpi .slt main_v2 main_v9
  let main_c_3 : IVec S_ 32 := constantI S_ 32 2048#32
  let main_v11 : IVec S64 32 := broadcastInDim S64 ![] bcast_S_S64 main_c_3
  let main_v12 : IVec S64 32 := addi main_v2 main_v11
  let main_v13 : IVec S64 32 := select main_v10 main_v12 main_v2
  let main_v14 : IVec S64x1 32 := broadcastInDim S64x1 ![0] bcast_S64_S64x1_0 main_v8
  let main_v15 : IVec S64x1 32 := broadcastInDim S64x1 ![0] bcast_S64_S64x1_0 main_v13
  let main_v16 : IVec S64x2 32 := (fun a b => concatenate S64x2 1 [⟨S64x1, a⟩, ⟨S64x1, b⟩] concatenates_S64x1_S64x1_S64x2_d1) main_v14 main_v15
  let main_v17 : FVec F S64x3 .f32 := (fun x i => Host.gather gather_S64x2048x3_S64x2_S64x3_1_01_n_n_01_1_113 x i) main_v0 main_v16
  fn_part1 (F := F) main_v0 main_v1 main_v2 main_v3 main_v17
-- ==== Kernel.lean ====
abbrev S64x3x2048 : Shape := ⟨3, ![64, 3, 2048]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩
abbrev S256x16x3 : Shape := ⟨3, ![256, 16, 3]⟩
abbrev S16x3 : Shape := ⟨2, ![16, 3]⟩
abbrev S1x1 : Shape := ⟨2, ![1, 1]⟩
abbrev S64x3 : Shape := ⟨2, ![64, 3]⟩
abbrev S64x1 : Shape := ⟨2, ![64, 1]⟩
abbrev S128x64 : Shape := ⟨2, ![128, 64]⟩
abbrev S128x1 : Shape := ⟨2, ![128, 1]⟩
abbrev S256x128 : Shape := ⟨2, ![256, 128]⟩
abbrev S256x1 : Shape := ⟨2, ![256, 1]⟩
abbrev S256x16x1 : Shape := ⟨3, ![256, 16, 1]⟩
abbrev S256x16 : Shape := ⟨2, ![256, 16]⟩
abbrev S16x256 : Shape := ⟨2, ![16, 256]⟩
abbrev S16x1 : Shape := ⟨2, ![16, 1]⟩
abbrev S64x64x3 : Shape := ⟨3, ![64, 64, 3]⟩
abbrev S64x4x3 : Shape := ⟨3, ![64, 4, 3]⟩
abbrev S1x3x2048 : Shape := ⟨3, ![1, 3, 2048]⟩
abbrev S1x64x3 : Shape := ⟨3, ![1, 64, 3]⟩
abbrev S1x4x3 : Shape := ⟨3, ![1, 4, 3]⟩
abbrev S1x1x2048 : Shape := ⟨3, ![1, 1, 2048]⟩
abbrev S1x2048 : Shape := ⟨2, ![1, 2048]⟩
abbrev S1 : Shape := ⟨1, ![1]⟩
abbrev S4x2048 : Shape := ⟨2, ![4, 2048]⟩
abbrev S4 : Shape := ⟨1, ![4]⟩
abbrev S4x1 : Shape := ⟨2, ![4, 1]⟩
abbrev S4x3 : Shape := ⟨2, ![4, 3]⟩
abbrev S15x1 : Shape := ⟨2, ![15, 1]⟩
abbrev S15x2048 : Shape := ⟨2, ![15, 2048]⟩
abbrev S15 : Shape := ⟨1, ![15]⟩
abbrev S64x2048 : Shape := ⟨2, ![64, 2048]⟩
abbrev S128x2048 : Shape := ⟨2, ![128, 2048]⟩
abbrev S128x4 : Shape := ⟨2, ![128, 4]⟩
abbrev S256x4 : Shape := ⟨2, ![256, 4]⟩
abbrev S16x4 : Shape := ⟨2, ![16, 4]⟩
abbrev S16x2048 : Shape := ⟨2, ![16, 2048]⟩

abbrev nBuf : Space → Nat
  | .hbm => 57
  | .vmem => 31
  | .smem => 0
  | _ => 0

abbrev bufTy : (tb : Table) → Fin (tcTables nBuf tb) → BufTy
  | .hbm, ⟨0, _⟩ => ⟨S64x3x2048, .f32⟩
  | .hbm, ⟨1, _⟩ => ⟨S3x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x48, .f32⟩
  | .hbm, ⟨18, _⟩ => ⟨S48, .f32⟩
  | .hbm, ⟨19, _⟩ => ⟨S_, .f32⟩
  | .hbm, ⟨20, _⟩ => ⟨S256x16x3, .f32⟩
  | .hbm, ⟨21, _⟩ => ⟨S16x3, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S64x3, .f32⟩
  | .hbm, ⟨27, _⟩ => ⟨S64x1, .f32⟩
  | .hbm, ⟨28, _⟩ => ⟨S64x64, .f32⟩
  | .hbm, ⟨29, _⟩ => ⟨S64x1, .f32⟩
  | .hbm, ⟨30, _⟩ => ⟨S64x64, .f32⟩
  | .hbm, ⟨31, _⟩ => ⟨S64x1, .f32⟩
  | .hbm, ⟨32, _⟩ => ⟨S128x64, .f32⟩
  | .hbm, ⟨33, _⟩ => ⟨S128x1, .f32⟩
  | .hbm, ⟨34, _⟩ => ⟨S128x128, .f32⟩
  | .hbm, ⟨35, _⟩ => ⟨S128x1, .f32⟩
  | .hbm, ⟨36, _⟩ => ⟨S256x128, .f32⟩
  | .hbm, ⟨37, _⟩ => ⟨S256x1, .f32⟩
  | .hbm, ⟨38, _⟩ => ⟨S256x256, .f32⟩
  | .hbm, ⟨39, _⟩ => ⟨S256x1, .f32⟩
  | .hbm, ⟨40, _⟩ => ⟨S256x256, .f32⟩
  | .hbm, ⟨41, _⟩ => ⟨S256x1, .f32⟩
  | .hbm, ⟨42, _⟩ => ⟨S256x16x1, .f32⟩
  | .hbm, ⟨43, _⟩ => ⟨S256x16, .f32⟩
  | .hbm, ⟨44, _⟩ => ⟨S16x256, .f32⟩
  | .hbm, ⟨45, _⟩ => ⟨S256x16x1, .f32⟩
  | .hbm, ⟨46, _⟩ => ⟨S256x16, .f32⟩
  | .hbm, ⟨47, _⟩ => ⟨S16x256, .f32⟩
  | .hbm, ⟨48, _⟩ => ⟨S256x16x1, .f32⟩
  | .hbm, ⟨49, _⟩ => ⟨S256x16, .f32⟩
  | .hbm, ⟨50, _⟩ => ⟨S16x256, .f32⟩
  | .hbm, ⟨51, _⟩ => ⟨S16x1, .f32⟩
  | .hbm, ⟨52, _⟩ => ⟨S16x1, .f32⟩
  | .hbm, ⟨53, _⟩ => ⟨S16x1, .f32⟩
  | .hbm, ⟨54, _⟩ => ⟨S64x64x3, .f32⟩
  | .hbm, ⟨55, _⟩ => ⟨S64x64x3, .f32⟩
  | .hbm, ⟨56, _⟩ => ⟨S64x4x3, .f32⟩
  | .local _ .vmem, ⟨0, _⟩ => ⟨S1x3x2048, .f32⟩
  | .local _ .vmem, ⟨1, _⟩ => ⟨S1x3x2048, .f32⟩
  | .local _ .vmem, ⟨2, _⟩ => ⟨S64x3, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S128x64, .f32⟩
  | .local _ .vmem, ⟨9, _⟩ => ⟨S128x1, .f32⟩
  | .local _ .vmem, ⟨10, _⟩ => ⟨S128x128, .f32⟩
  | .local _ .vmem, ⟨11, _⟩ => ⟨S128x1, .f32⟩
  | .local _ .vmem, ⟨12, _⟩ => ⟨S256x128, .f32⟩
  | .local _ .vmem, ⟨13, _⟩ => ⟨S256x1, .f32⟩
  | .local _ .vmem, ⟨14, _⟩ => ⟨S256x256, .f32⟩
  | .local _ .vmem, ⟨15, _⟩ => ⟨S256x1, .f32⟩
  | .local _ .vmem, ⟨16, _⟩ => ⟨S256x256, .f32⟩
  | .local _ .vmem, ⟨17, _⟩ => ⟨S256x1, .f32⟩
  | .local _ .vmem, ⟨18, _⟩ => ⟨S16x256, .f32⟩
  | .local _ .vmem, ⟨19, _⟩ => ⟨S16x256, .f32⟩
  | .local _ .vmem, ⟨20, _⟩ => ⟨S16x256, .f32⟩
  | .local _ .vmem, ⟨21, _⟩ => ⟨S16x1, .f32⟩
  | .local _ .vmem, ⟨22, _⟩ => ⟨S16x1, .f32⟩
  | .local _ .vmem, ⟨23, _⟩ => ⟨S16x1, .f32⟩
  | .local _ .vmem, ⟨24, _⟩ => ⟨S1x1, .f32⟩
  | .local _ .vmem, ⟨25, _⟩ => ⟨S1x64x3, .f32⟩
  | .local _ .vmem, ⟨26, _⟩ => ⟨S1x64x3, .f32⟩
  | .local _ .vmem, ⟨27, _⟩ => ⟨S1x64x3, .f32⟩
  | .local _ .vmem, ⟨28, _⟩ => ⟨S1x64x3, .f32⟩
  | .local _ .vmem, ⟨29, _⟩ => ⟨S1x4x3, .f32⟩
  | .local _ .vmem, ⟨30, _⟩ => ⟨S1x4x3, .f32⟩
  | _, _ => ⟨S64x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33_0 : Ref sig .tc := ⟨.hbm, 54, rfl⟩
abbrev main_v0_0 : Ref sig .tc := ⟨.hbm, 55, rfl⟩
abbrev main_v0_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28
abbrev cc0_sem26_0 : DmaSem sig := 29
abbrev cc0_sem26_1 : DmaSem sig := 30

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_76 : BitVec 32 := 0#32
  let c10_i32 : BitVec 32 := 10#32
  let v199 : BitVec 32 := Scalar.addi c0_i32_76 c10_i32
  let c1_i32_77 : BitVec 32 := 1#32
  ⟨c0_i32_76, v199, c1_i32_77⟩
@[reducible] def k0_t2_loop : Scf.Loop 32 :=
  let c0_i32_81 : BitVec 32 := 0#32
  let c10_i32_82 : BitVec 32 := 10#32
  let v210 : BitVec 32 := Scalar.addi c0_i32_81 c10_i32_82
  let c1_i32_83 : BitVec 32 := 1#32
  ⟨c0_i32_81, v210, c1_i32_83⟩
@[reducible] def k0_t3_loop : Scf.Loop 32 :=
  let c0_i32_87 : BitVec 32 := 0#32
  let c10_i32_88 : BitVec 32 := 10#32
  let v221 : BitVec 32 := Scalar.addi c0_i32_87 c10_i32_88
  let c1_i32_89 : BitVec 32 := 1#32
  ⟨c0_i32_87, v221, c1_i32_89⟩
@[reducible] def k0_t4_loop : Scf.Loop 32 :=
  let c0_i32_93 : BitVec 32 := 0#32
  let c10_i32_94 : BitVec 32 := 10#32
  let v232 : BitVec 32 := Scalar.addi c0_i32_93 c10_i32_94
  let c1_i32_95 : BitVec 32 := 1#32
  ⟨c0_i32_93, v232, c1_i32_95⟩
@[reducible] def k0_t5_loop : Scf.Loop 32 :=
  let c0_i32_96 : BitVec 32 := 0#32
  let c8_i32 : BitVec 32 := 8#32
  let v236 : BitVec 32 := Scalar.addi c0_i32_96 c8_i32
  let c1_i32_97 : BitVec 32 := 1#32
  ⟨c0_i32_96, v236, c1_i32_97⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x64x3 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x64x3 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4x3 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KernelIdeal.lean ====
variable {F : FTy → Type} [FloatOps F] [Named F]
def κ : String → Option EReal := fun
  | "far" => some ⊤
  | _ => none
-- ==== ReferenceIdeal.lean ====
abbrev S64x3x2048 : Shape := ⟨3, ![64, 3, 2048]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩
abbrev S64x2048x3 : Shape := ⟨3, ![64, 2048, 3]⟩
abbrev S64x2048 : Shape := ⟨2, ![64, 2048]⟩
abbrev S64x1 : Shape := ⟨2, ![64, 1]⟩
abbrev S64x2 : Shape := ⟨2, ![64, 2]⟩
abbrev S64x3 : Shape := ⟨2, ![64, 3]⟩
abbrev S64x1x3 : Shape := ⟨3, ![64, 1, 3]⟩
abbrev S64x4 : Shape := ⟨2, ![64, 4]⟩
abbrev S64x4x1 : Shape := ⟨3, ![64, 4, 1]⟩
abbrev S64x4x2 : Shape := ⟨3, ![64, 4, 2]⟩
abbrev S64x4x3 : Shape := ⟨3, ![64, 4, 3]⟩
abbrev S64x4x1x3 : Shape := ⟨4, ![64, 4, 1, 3]⟩
abbrev S64x1x2048x3 : Shape := ⟨4, ![64, 1, 2048, 3]⟩
abbrev S64x4x2048x3 : Shape := ⟨4, ![64, 4, 2048, 3]⟩
abbrev S64x4x2048 : Shape := ⟨3, ![64, 4, 2048]⟩
abbrev S64x4x256 : Shape := ⟨3, ![64, 4, 256]⟩
abbrev S64x1x1 : Shape := ⟨3, ![64, 1, 1]⟩
abbrev S64x4x256x1 : Shape := ⟨4, ![64, 4, 256, 1]⟩
abbrev S64x4x256x2 : Shape := ⟨4, ![64, 4, 256, 2]⟩
abbrev S64x4x256x3 : Shape := ⟨4, ![64, 4, 256, 3]⟩
abbrev S64x4x1x1 : Shape := ⟨4, ![64, 4, 1, 1]⟩
abbrev S64x4x256x64 : Shape := ⟨4, ![64, 4, 256, 64]⟩
abbrev S1x1x1x64 : Shape := ⟨4, ![1, 1, 1, 64]⟩
abbrev S64x4x256x128 : Shape := ⟨4, ![64, 4, 256, 128]⟩
abbrev S1x1x1x128 : Shape := ⟨4, ![1, 1, 1, 128]⟩
abbrev S64x4x128 : Shape := ⟨3, ![64, 4, 128]⟩
abbrev S1x1x256 : Shape := ⟨3, ![1, 1, 256]⟩
abbrev S64x4x48 : Shape := ⟨3, ![64, 4, 48]⟩
abbrev S1x1x48 : Shape := ⟨3, ![1, 1, 48]⟩
abbrev S64x4x16x3 : Shape := ⟨4, ![64, 4, 16, 3]⟩
abbrev S64x64x3 : Shape := ⟨3, ![64, 64, 3]⟩
abbrev S256x256x3 : Shape := ⟨3, ![256, 256, 3]⟩
abbrev S256x16x3 : Shape := ⟨3, ![256, 16, 3]⟩
abbrev S256x16x1x3 : Shape := ⟨4, ![256, 16, 1, 3]⟩
abbrev S256x1x256x3 : Shape := ⟨4, ![256, 1, 256, 3]⟩
abbrev S256x16x256x3 : Shape := ⟨4, ![256, 16, 256, 3]⟩
abbrev S256x16x256 : Shape := ⟨3, ![256, 16, 256]⟩
abbrev S256x16x7 : Shape := ⟨3, ![256, 16, 7]⟩
abbrev S256x1x1 : Shape := ⟨3, ![256, 1, 1]⟩
abbrev S256x16x7x1 : Shape := ⟨4, ![256, 16, 7, 1]⟩
abbrev S256x16x7x2 : Shape := ⟨4, ![256, 16, 7, 2]⟩
abbrev S256x16x7x3 : Shape := ⟨4, ![256, 16, 7, 3]⟩
abbrev S256x16 : Shape := ⟨2, ![256, 16]⟩
abbrev S256x16x1 : Shape := ⟨3, ![256, 16, 1]⟩

abbrev nBuf : Space → Nat
  | .hbm => 338
  | .vmem => 0
  | .smem => 0
  | _ => 0

abbrev hbmTy0_0 (i : Nat) : BufTy := match i % 128 with
  | 0 => ⟨S64x3x2048, .f32⟩
  | 1 => ⟨S3x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S128x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x48, .f32⟩
  | 18 => ⟨S48, .f32⟩
  | 19 => ⟨S_, .f32⟩
  | 20 => ⟨S64x2048x3, .f32⟩
  | 21 => ⟨S64, .i32⟩
  | 22 => ⟨S_, .i32⟩
  | 23 => ⟨S64, .i32⟩
  | 24 => ⟨S_, .f32⟩
  | 25 => ⟨S64x2048, .f32⟩
  | 26 => ⟨S_, .i32⟩
  | 27 => ⟨S64, .i32⟩
  | 28 => ⟨S64, .i1⟩
  | 29 => ⟨S_, .i32⟩
  | 30 => ⟨S64, .i32⟩
  | 31 => ⟨S64, .i32⟩
  | 32 => ⟨S64, .i32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S64x1, .i32⟩
  | 41 => ⟨S64x1, .i32⟩
  | 42 => ⟨S64x2, .i32⟩
  | 43 => ⟨S64x3, .f32⟩
  | 44 => ⟨S64x1x3, .f32⟩
  | 45 => ⟨S64x2048x3, .f32⟩
  | 46 => ⟨S64x2048x3, .f32⟩
  | 47 => ⟨S64x2048x3, .f32⟩
  | 48 => ⟨S_, .f32⟩
  | 49 => ⟨S64x2048, .f32⟩
  | 50 => ⟨S64x2048, .f32⟩
  | 51 => ⟨S64x1, .f32⟩
  | 52 => ⟨S64x1, .i32⟩
  | 53 => ⟨S64, .i32⟩
  | 54 => ⟨S_, .i32⟩
  | 55 => ⟨S64, .i32⟩
  | 56 => ⟨S64, .i1⟩
  | 57 => ⟨S_, .i32⟩
  | 58 => ⟨S64, .i32⟩
  | 59 => ⟨S64, .i32⟩
  | 60 => ⟨S64, .i32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S64, .i32⟩
  | 68 => ⟨S64x1, .i32⟩
  | 69 => ⟨S64x1, .i32⟩
  | 70 => ⟨S64x2, .i32⟩
  | 71 => ⟨S64x3, .f32⟩
  | 72 => ⟨S64x1x3, .f32⟩
  | 73 => ⟨S64x2048x3, .f32⟩
  | 74 => ⟨S64x2048x3, .f32⟩
  | 75 => ⟨S64x2048x3, .f32⟩
  | 76 => ⟨S_, .f32⟩
  | 77 => ⟨S64x2048, .f32⟩
  | 78 => ⟨S64x2048, .f32⟩
  | 79 => ⟨S64x1, .f32⟩
  | 80 => ⟨S64x1, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S_, .i32⟩
  | 90 => ⟨S64, .i32⟩
  | 91 => ⟨S64, .i1⟩
  | 92 => ⟨S_, .i32⟩
  | 93 => ⟨S64, .i32⟩
  | 94 => ⟨S64, .i32⟩
  | 95 => ⟨S64, .i32⟩
  | 96 => ⟨S64x1, .i32⟩
  | 97 => ⟨S64x1, .i32⟩
  | 98 => ⟨S64x2, .i32⟩
  | 99 => ⟨S64x3, .f32⟩
  | 100 => ⟨S64x1x3, .f32⟩
  | 101 => ⟨S64x2048x3, .f32⟩
  | 102 => ⟨S64x2048x3, .f32⟩
  | 103 => ⟨S64x2048x3, .f32⟩
  | 104 => ⟨S_, .f32⟩
  | 105 => ⟨S64x2048, .f32⟩
  | 106 => ⟨S64x2048, .f32⟩
  | 107 => ⟨S64x1, .f32⟩
  | 108 => ⟨S64x1, .i32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x1, .i32⟩
  | 126 => ⟨S64x2, .i32⟩
  | 127 => ⟨S64x3, .f32⟩
  | _ => ⟨S64x3x2048, .f32⟩

abbrev hbmTy0_1 (i : Nat) : BufTy := match i % 128 with
  | 0 => ⟨S64x1, .i32⟩
  | 1 => ⟨S64x1, .i32⟩
  | 2 => ⟨S64x1, .i32⟩
  | 3 => ⟨S64x1, .i32⟩
  | 4 => ⟨S64x4, .i32⟩
  | 5 => ⟨S64, .i32⟩
  | 6 => ⟨S64x1, .i32⟩
  | 7 => ⟨S_, .i32⟩
  | 8 => ⟨S64x1, .i32⟩
  | 9 => ⟨S64x1, .i1⟩
  | 10 => ⟨S_, .i32⟩
  | 11 => ⟨S64x1, .i32⟩
  | 12 => ⟨S64x1, .i32⟩
  | 13 => ⟨S64x1, .i32⟩
  | 14 => ⟨S_, .i32⟩
  | 15 => ⟨S64x4, .i32⟩
  | 16 => ⟨S64x4, .i1⟩
  | 17 => ⟨S_, .i32⟩
  | 18 => ⟨S64x4, .i32⟩
  | 19 => ⟨S64x4, .i32⟩
  | 20 => ⟨S64x4, .i32⟩
  | 21 => ⟨S64x4, .i32⟩
  | 22 => ⟨S64x4x1, .i32⟩
  | 23 => ⟨S64x4x1, .i32⟩
  | 24 => ⟨S64x4x2, .i32⟩
  | 25 => ⟨S64x4x3, .f32⟩
  | 26 => ⟨S64x4x1x3, .f32⟩
  | 27 => ⟨S64x1x2048x3, .f32⟩
  | 28 => ⟨S64x4x2048x3, .f32⟩
  | 29 => ⟨S64x4x2048x3, .f32⟩
  | 30 => ⟨S64x4x2048x3, .f32⟩
  | 31 => ⟨S64x4x2048x3, .f32⟩
  | 32 => ⟨S_, .f32⟩
  | 33 => ⟨S64x4x2048, .f32⟩
  | 34 => ⟨S64x4x2048, .f32⟩
  | 35 => ⟨S64x4x256, .f32⟩
  | 36 => ⟨S64x4x256, .i32⟩
  | 37 => ⟨S64x1x1, .i32⟩
  | 38 => ⟨S_, .i32⟩
  | 39 => ⟨S64x1x1, .i32⟩
  | 40 => ⟨S64x1x1, .i1⟩
  | 41 => ⟨S_, .i32⟩
  | 42 => ⟨S64x1x1, .i32⟩
  | 43 => ⟨S64x1x1, .i32⟩
  | 44 => ⟨S64x1x1, .i32⟩
  | 45 => ⟨S_, .i32⟩
  | 46 => ⟨S64x4x256, .i32⟩
  | 47 => ⟨S64x4x256, .i1⟩
  | 48 => ⟨S_, .i32⟩
  | 49 => ⟨S64x4x256, .i32⟩
  | 50 => ⟨S64x4x256, .i32⟩
  | 51 => ⟨S64x4x256, .i32⟩
  | 52 => ⟨S64x4x256, .i32⟩
  | 53 => ⟨S64x4x256x1, .i32⟩
  | 54 => ⟨S64x4x256x1, .i32⟩
  | 55 => ⟨S64x4x256x2, .i32⟩
  | 56 => ⟨S64x4x256x3, .f32⟩
  | 57 => ⟨S_, .f32⟩
  | 58 => ⟨S64x4x3, .f32⟩
  | 59 => ⟨S64x4x1x3, .f32⟩
  | 60 => ⟨S_, .f32⟩
  | 61 => ⟨S64x4x1x3, .f32⟩
  | 62 => ⟨S64x4x1x3, .f32⟩
  | 63 => ⟨S64x4x256x3, .f32⟩
  | 64 => ⟨S64x4x256x3, .f32⟩
  | 65 => ⟨S64x4x256x3, .f32⟩
  | 66 => ⟨S_, .f32⟩
  | 67 => ⟨S64x4x256, .f32⟩
  | 68 => ⟨S64x4x256x1, .f32⟩
  | 69 => ⟨S_, .f32⟩
  | 70 => ⟨S64x4x256x1, .f32⟩
  | 71 => ⟨S64x4x256x1, .f32⟩
  | 72 => ⟨S64x4x256x1, .f32⟩
  | 73 => ⟨S_, .f32⟩
  | 74 => ⟨S64x4x1, .f32⟩
  | 75 => ⟨S64x4x1x1, .f32⟩
  | 76 => ⟨S64x4x256x3, .f32⟩
  | 77 => ⟨S64x4x256x3, .f32⟩
  | 78 => ⟨S64x4x256x64, .f32⟩
  | 79 => ⟨S1x1x1x64, .f32⟩
  | 80 => ⟨S64x4x256x64, .f32⟩
  | 81 => ⟨S64x4x256x64, .f32⟩
  | 82 => ⟨S_, .f32⟩
  | 83 => ⟨S64x4x256x64, .f32⟩
  | 84 => ⟨S64x4x256x64, .f32⟩
  | 85 => ⟨S64x4x256x64, .f32⟩
  | 86 => ⟨S1x1x1x64, .f32⟩
  | 87 => ⟨S64x4x256x64, .f32⟩
  | 88 => ⟨S64x4x256x64, .f32⟩
  | 89 => ⟨S_, .f32⟩
  | 90 => ⟨S64x4x256x64, .f32⟩
  | 91 => ⟨S64x4x256x64, .f32⟩
  | 92 => ⟨S64x4x256x64, .f32⟩
  | 93 => ⟨S1x1x1x64, .f32⟩
  | 94 => ⟨S64x4x256x64, .f32⟩
  | 95 => ⟨S64x4x256x64, .f32⟩
  | 96 => ⟨S_, .f32⟩
  | 97 => ⟨S64x4x256x64, .f32⟩
  | 98 => ⟨S64x4x256x64, .f32⟩
  | 99 => ⟨S64x4x256x128, .f32⟩
  | 100 => ⟨S1x1x1x128, .f32⟩
  | 101 => ⟨S64x4x256x128, .f32⟩
  | 102 => ⟨S64x4x256x128, .f32⟩
  | 103 => ⟨S_, .f32⟩
  | 104 => ⟨S64x4x256x128, .f32⟩
  | 105 => ⟨S64x4x256x128, .f32⟩
  | 106 => ⟨S64x4x256x128, .f32⟩
  | 107 => ⟨S1x1x1x128, .f32⟩
  | 108 => ⟨S64x4x256x128, .f32⟩
  | 109 => ⟨S64x4x256x128, .f32⟩
  | 110 => ⟨S_, .f32⟩
  | 111 => ⟨S64x4x256x128, .f32⟩
  | 112 => ⟨S64x4x256x128, .f32⟩
  | 113 => ⟨S_, .f32⟩
  | 114 => ⟨S64x4x128, .f32⟩
  | 115 => ⟨S64x4x256, .f32⟩
  | 116 => ⟨S1x1x256, .f32⟩
  | 117 => ⟨S64x4x256, .f32⟩
  | 118 => ⟨S64x4x256, .f32⟩
  | 119 => ⟨S_, .f32⟩
  | 120 => ⟨S64x4x256, .f32⟩
  | 121 => ⟨S64x4x256, .f32⟩
  | 122 => ⟨S64x4x256, .f32⟩
  | 123 => ⟨S1x1x256, .f32⟩
  | 124 => ⟨S64x4x256, .f32⟩
  | 125 => ⟨S64x4x256, .f32⟩
  | 126 => ⟨S_, .f32⟩
  | 127 => ⟨S64x4x256, .f32⟩
  | _ => ⟨S64x3x2048, .f32⟩

abbrev hbmTy0_2 (i : Nat) : BufTy := match i % 128 with
  | 0 => ⟨S64x4x256, .f32⟩
  | 1 => ⟨S64x4x256, .f32⟩
  | 2 => ⟨S1x1x256, .f32⟩
  | 3 => ⟨S64x4x256, .f32⟩
  | 4 => ⟨S64x4x256, .f32⟩
  | 5 => ⟨S_, .f32⟩
  | 6 => ⟨S64x4x256, .f32⟩
  | 7 => ⟨S64x4x256, .f32⟩
  | 8 => ⟨S64x4x48, .f32⟩
  | 9 => ⟨S1x1x48, .f32⟩
  | 10 => ⟨S64x4x48, .f32⟩
  | 11 => ⟨S64x4x48, .f32⟩
  | 12 => ⟨S64x4x16x3, .f32⟩
  | 13 => ⟨S64x4x16x3, .f32⟩
  | 14 => ⟨S64x4x16x3, .f32⟩
  | 15 => ⟨S64x4x16x3, .f32⟩
  | 16 => ⟨S64x4x16x3, .f32⟩
  | 17 => ⟨S64x64x3, .f32⟩
  | 18 => ⟨S256x256x3, .f32⟩
  | 19 => ⟨S256x16x3, .f32⟩
  | 20 => ⟨S256x16x1x3, .f32⟩
  | 21 => ⟨S256x1x256x3, .f32⟩
  | 22 => ⟨S256x16x256x3, .f32⟩
  | 23 => ⟨S256x16x256x3, .f32⟩
  | 24 => ⟨S256x16x256x3, .f32⟩
  | 25 => ⟨S256x16x256x3, .f32⟩
  | 26 => ⟨S_, .f32⟩
  | 27 => ⟨S256x16x256, .f32⟩
  | 28 => ⟨S256x16x256, .f32⟩
  | 29 => ⟨S256x16x7, .f32⟩
  | 30 => ⟨S256x16x7, .i32⟩
  | 31 => ⟨S256, .i32⟩
  | 32 => ⟨S256x1x1, .i32⟩
  | 33 => ⟨S_, .i32⟩
  | 34 => ⟨S256x1x1, .i32⟩
  | 35 => ⟨S256x1x1, .i1⟩
  | 36 => ⟨S_, .i32⟩
  | 37 => ⟨S256x1x1, .i32⟩
  | 38 => ⟨S256x1x1, .i32⟩
  | 39 => ⟨S256x1x1, .i32⟩
  | 40 => ⟨S_, .i32⟩
  | 41 => ⟨S256x16x7, .i32⟩
  | 42 => ⟨S256x16x7, .i1⟩
  | 43 => ⟨S_, .i32⟩
  | 44 => ⟨S256x16x7, .i32⟩
  | 45 => ⟨S256x16x7, .i32⟩
  | 46 => ⟨S256x16x7, .i32⟩
  | 47 => ⟨S256x16x7, .i32⟩
  | 48 => ⟨S256x16x7x1, .i32⟩
  | 49 => ⟨S256x16x7x1, .i32⟩
  | 50 => ⟨S256x16x7x2, .i32⟩
  | 51 => ⟨S256x16x7x3, .f32⟩
  | 52 => ⟨S_, .f32⟩
  | 53 => ⟨S_, .f32⟩
  | 54 => ⟨S_, .f32⟩
  | 55 => ⟨S256x16x7, .f32⟩
  | 56 => ⟨S256x16x7, .f32⟩
  | 57 => ⟨S_, .f32⟩
  | 58 => ⟨S256x16, .f32⟩
  | 59 => ⟨S_, .f32⟩
  | 60 => ⟨S256x16, .f32⟩
  | 61 => ⟨S256x16, .f32⟩
  | 62 => ⟨S256x16x1, .f32⟩
  | 63 => ⟨S256x16x7, .f32⟩
  | 64 => ⟨S256x16x7, .f32⟩
  | 65 => ⟨S256x16x7, .f32⟩
  | 66 => ⟨S_, .f32⟩
  | 67 => ⟨S256x16, .f32⟩
  | 68 => ⟨S256x16x1, .f32⟩
  | 69 => ⟨S256x16x7, .f32⟩
  | 70 => ⟨S256x16x7, .f32⟩
  | 71 => ⟨S256x16x7x1, .f32⟩
  | 72 => ⟨S256x16x7x3, .f32⟩
  | 73 => ⟨S256x16x7x3, .f32⟩
  | 74 => ⟨S_, .f32⟩
  | 75 => ⟨S256x16x3, .f32⟩
  | 76 => ⟨S64x4x16x3, .f32⟩
  | 77 => ⟨S64x4x16x3, .f32⟩
  | 78 => ⟨S64x4x16x3, .f32⟩
  | 79 => ⟨S64x4x16x3, .f32⟩
  | 80 => ⟨S64x4x16x3, .f32⟩
  | 81 => ⟨S64x64x3, .f32⟩
  | _ => ⟨S64x3x2048, .f32⟩

abbrev hbmTy (i : Nat) : BufTy := match i / 128 with
  | 0 => hbmTy0_0 i
  | 1 => hbmTy0_1 i
  | 2 => hbmTy0_2 i
  | _ => ⟨S64x3x2048, .f32⟩

abbrev bufTy : (tb : Table) → Fin (tcTables nBuf tb) → BufTy
  | .hbm, ⟨i, _⟩ => hbmTy i
  | _, _ => ⟨S64x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_values : Ref sig .tc := ⟨.hbm, 51, rfl⟩
abbrev main_indices : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_v31 : Ref sig .tc := ⟨.hbm, 63, rfl⟩
abbrev main_c_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_values_10 : Ref sig .tc := ⟨.hbm, 79, rfl⟩
abbrev main_indices_11 : Ref sig .tc := ⟨.hbm, 80, rfl⟩
abbrev main_v45 : Ref sig .tc := ⟨.hbm, 81, rfl⟩
abbrev main_c_12 : Ref sig .tc := ⟨.hbm, 82, rfl⟩
abbrev main_v46 : Ref sig .tc := ⟨.hbm, 83, rfl⟩
abbrev main_v47 : Ref sig .tc := ⟨.hbm, 84, rfl⟩
abbrev main_c_13 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_14 : Ref sig .tc := ⟨.hbm, 89, rfl⟩
abbrev main_v51 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_16 : Ref sig .tc := ⟨.hbm, 104, rfl⟩
abbrev main_v64 : Ref sig .tc := ⟨.hbm, 105, rfl⟩
abbrev main_v65 : Ref sig .tc := ⟨.hbm, 106, rfl⟩
abbrev main_values_17 : Ref sig .tc := ⟨.hbm, 107, rfl⟩
abbrev main_indices_18 : Ref sig .tc := ⟨.hbm, 108, rfl⟩
abbrev main_v66 : Ref sig .tc := ⟨.hbm, 109, rfl⟩
abbrev main_c_19 : Ref sig .tc := ⟨.hbm, 110, rfl⟩
abbrev main_v67 : Ref sig .tc := ⟨.hbm, 111, rfl⟩
abbrev main_v68 : Ref sig .tc := ⟨.hbm, 112, rfl⟩
abbrev main_c_20 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_21 : Ref sig .tc := ⟨.hbm, 117, rfl⟩
abbrev main_v72 : Ref sig .tc := ⟨.hbm, 118, rfl⟩
abbrev main_v73 : Ref sig .tc := ⟨.hbm, 119, rfl⟩
abbrev main_c_22 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_23 : Ref sig .tc := ⟨.hbm, 135, rfl⟩
abbrev main_v88 : Ref sig .tc := ⟨.hbm, 136, rfl⟩
abbrev main_v89 : Ref sig .tc := ⟨.hbm, 137, rfl⟩
abbrev main_c_24 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_25 : Ref sig .tc := ⟨.hbm, 142, rfl⟩
abbrev main_v93 : Ref sig .tc := ⟨.hbm, 143, rfl⟩
abbrev main_v94 : Ref sig .tc := ⟨.hbm, 144, rfl⟩
abbrev main_c_26 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_27 : Ref sig .tc := ⟨.hbm, 160, rfl⟩
abbrev main_v109 : Ref sig .tc := ⟨.hbm, 161, rfl⟩
abbrev main_v110 : Ref sig .tc := ⟨.hbm, 162, rfl⟩
abbrev main_values_28 : Ref sig .tc := ⟨.hbm, 163, rfl⟩
abbrev main_indices_29 : Ref sig .tc := ⟨.hbm, 164, rfl⟩
abbrev main_v111 : Ref sig .tc := ⟨.hbm, 165, rfl⟩
abbrev main_c_30 : Ref sig .tc := ⟨.hbm, 166, rfl⟩
abbrev main_v112 : Ref sig .tc := ⟨.hbm, 167, rfl⟩
abbrev main_v113 : Ref sig .tc := ⟨.hbm, 168, rfl⟩
abbrev main_c_31 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_32 : Ref sig .tc := ⟨.hbm, 173, rfl⟩
abbrev main_v117 : Ref sig .tc := ⟨.hbm, 174, rfl⟩
abbrev main_v118 : Ref sig .tc := ⟨.hbm, 175, rfl⟩
abbrev main_c_33 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_34 : Ref sig .tc := ⟨.hbm, 185, rfl⟩
abbrev main_v127 : Ref sig .tc := ⟨.hbm, 186, rfl⟩
abbrev main_v128 : Ref sig .tc := ⟨.hbm, 187, rfl⟩
abbrev main_cst_35 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_36 : Ref sig .tc := ⟨.hbm, 194, rfl⟩
abbrev main_v134 : Ref sig .tc := ⟨.hbm, 195, rfl⟩
abbrev main_v135 : Ref sig .tc := ⟨.hbm, 196, rfl⟩
abbrev main_cst_37 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_38 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_call0_cst : Ref sig .tc := ⟨.hbm, 210, rfl⟩
abbrev main_call0_v0 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_call1_cst : Ref sig .tc := ⟨.hbm, 217, rfl⟩
abbrev main_call1_v0 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_call2_cst : Ref sig .tc := ⟨.hbm, 224, rfl⟩
abbrev main_call2_v0 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_call3_cst : Ref sig .tc := ⟨.hbm, 231, rfl⟩
abbrev main_call3_v0 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_call4_cst : Ref sig .tc := ⟨.hbm, 238, rfl⟩
abbrev main_call4_v0 : Ref sig .tc := ⟨.hbm, 239, rfl⟩
abbrev main_v167 : Ref sig .tc := ⟨.hbm, 240, rfl⟩
abbrev main_cst_39 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_call5_cst : Ref sig .tc := ⟨.hbm, 247, rfl⟩
abbrev main_call5_v0 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_call6_cst : Ref sig .tc := ⟨.hbm, 254, rfl⟩
abbrev main_call6_v0 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_call7_cst : Ref sig .tc := ⟨.hbm, 261, rfl⟩
abbrev main_call7_v0 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_40 : Ref sig .tc := ⟨.hbm, 282, rfl⟩
abbrev main_v202 : Ref sig .tc := ⟨.hbm, 283, rfl⟩
abbrev main_v203 : Ref sig .tc := ⟨.hbm, 284, rfl⟩
abbrev main_values_41 : Ref sig .tc := ⟨.hbm, 285, rfl⟩
abbrev main_indices_42 : Ref sig .tc := ⟨.hbm, 286, rfl⟩
abbrev main_v204 : Ref sig .tc := ⟨.hbm, 287, rfl⟩
abbrev main_v205 : Ref sig .tc := ⟨.hbm, 288, rfl⟩
abbrev main_c_43 : Ref sig .tc := ⟨.hbm, 289, rfl⟩
abbrev main_v206 : Ref sig .tc := ⟨.hbm, 290, rfl⟩
abbrev main_v207 : Ref sig .tc := ⟨.hbm, 291, rfl⟩
abbrev main_c_44 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_c_45 : Ref sig .tc := ⟨.hbm, 296, rfl⟩
abbrev main_v211 : Ref sig .tc := ⟨.hbm, 297, rfl⟩
abbrev main_v212 : Ref sig .tc := ⟨.hbm, 298, rfl⟩
abbrev main_c_46 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_cst_47 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_cst_48 : Ref sig .tc := ⟨.hbm, 313, rfl⟩
abbrev main_v225 : Ref sig .tc := ⟨.hbm, 314, rfl⟩
abbrev main_cst_49 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_cst_50 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_cst_51 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩

abbrev nD : Nat := 1
abbrev τ : Topo := Topo.v7x

variable {F : FTy → Type} [FloatOps F]
-- ==== Proof.IdealRunBody.lean ====
/- One run of the body of the idealization, whatever its blocks hold. -/
module

public import proofs.«01_k».proof.Proof.Gen.KernelIdeal.Frame.Runs

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords) (arg1 : Memref sig .tc .vmem S1x3x2048 .f32) (harg1 : arg1.IsWhole) (arg2 : Memref sig .tc .vmem S64x3 .f32) (harg2 : arg2.IsWhole) (arg3 : Memref sig .tc .vmem S64x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S128x64 .f32) (harg8 : arg8.IsWhole) (arg9 : Memref sig .tc .vmem S128x1 .f32) (harg9 : arg9.IsWhole) (arg10 : Memref sig .tc .vmem S128x128 .f32) (harg10 : arg10.IsWhole) (arg11 : Memref sig .tc .vmem S128x1 .f32) (harg11 : arg11.IsWhole) (arg12 : Memref sig .tc .vmem S256x128 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (arg17 : Memref sig .tc .vmem S256x1 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x1 .f32) (harg21 : arg21.IsWhole) (arg22 : Memref sig .tc .vmem S16x1 .f32) (harg22 : arg22.IsWhole) (arg23 : Memref sig .tc .vmem S16x1 .f32) (harg23 : arg23.IsWhole) (arg24 : Memref sig .tc .vmem S1x1 .f32) (harg24 : arg24.IsWhole) (arg25 : Memref sig .tc .vmem S1x64x3 .f32) (harg25 : arg25.IsWhole) (arg26 : Memref sig .tc .vmem S1x64x3 .f32) (harg26 : arg26.IsWhole) (arg27 : Memref sig .tc .vmem S1x4x3 .f32) (harg27 : arg27.IsWhole)
  (x0 : Vec F S1x3x2048 .f32) (x1 : Vec F S64x3 .f32) (x2 : Vec F S64x1 .f32) (x3 : Vec F S64x64 .f32) (x4 : Vec F S64x1 .f32) (x5 : Vec F S64x64 .f32) (x6 : Vec F S64x1 .f32) (x7 : Vec F S128x64 .f32) (x8 : Vec F S128x1 .f32) (x9 : Vec F S128x128 .f32) (x10 : Vec F S128x1 .f32) (x11 : Vec F S256x128 .f32) (x12 : Vec F S256x1 .f32) (x13 : Vec F S256x256 .f32) (x14 : Vec F S256x1 .f32) (x15 : Vec F S256x256 .f32) (x16 : Vec F S256x1 .f32) (x17 : Vec F S16x256 .f32) (x18 : Vec F S16x256 .f32) (x19 : Vec F S16x256 .f32) (x20 : Vec F S16x1 .f32) (x21 : Vec F S16x1 .f32) (x22 : Vec F S16x1 .f32) (x23 : Vec F S1x1 .f32)

set_option maxHeartbeats 8000000 in
/-- The body run on whole staging buffers. What each of the three outputs receives is found by the run. -/
noncomputable def bodyRun
     :
    Σ' (L24 : List (View.Piece (Elt F) S1x64x3 .f32)), Σ' (L25 : List (View.Piece (Elt F) S1x64x3 .f32)), { L26 : List (View.Piece (Elt F) S1x4x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0__samplenet_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0__samplenet_kernel_eq_skeleton]; unfold cc0__samplenet_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    iexists _; iexact H26

end Body

end Cert.Proof.IdealRun

end
-- ==== Proof.IdealRun.lean ====
/- The launch of the idealization: the body at every grid point, the run and the frame. -/
module

public import proofs.«01_k».proof.Proof.IdealRunBody
public import Idealize.ShloMosaic.Lib.Claim

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords) (arg1 : Memref sig .tc .vmem S1x3x2048 .f32) (harg1 : arg1.IsWhole) (arg2 : Memref sig .tc .vmem S64x3 .f32) (harg2 : arg2.IsWhole) (arg3 : Memref sig .tc .vmem S64x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x1 .f32) (harg7 : arg7.IsWhole) (arg8 : Memref sig .tc .vmem S128x64 .f32) (harg8 : arg8.IsWhole) (arg9 : Memref sig .tc .vmem S128x1 .f32) (harg9 : arg9.IsWhole) (arg10 : Memref sig .tc .vmem S128x128 .f32) (harg10 : arg10.IsWhole) (arg11 : Memref sig .tc .vmem S128x1 .f32) (harg11 : arg11.IsWhole) (arg12 : Memref sig .tc .vmem S256x128 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S256x256 .f32) (harg16 : arg16.IsWhole) (arg17 : Memref sig .tc .vmem S256x1 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x1 .f32) (harg21 : arg21.IsWhole) (arg22 : Memref sig .tc .vmem S16x1 .f32) (harg22 : arg22.IsWhole) (arg23 : Memref sig .tc .vmem S16x1 .f32) (harg23 : arg23.IsWhole) (arg24 : Memref sig .tc .vmem S1x1 .f32) (harg24 : arg24.IsWhole) (arg25 : Memref sig .tc .vmem S1x64x3 .f32) (harg25 : arg25.IsWhole) (arg26 : Memref sig .tc .vmem S1x64x3 .f32) (harg26 : arg26.IsWhole) (arg27 : Memref sig .tc .vmem S1x4x3 .f32) (harg27 : arg27.IsWhole)
  (x0 : Vec F S1x3x2048 .f32) (x1 : Vec F S64x3 .f32) (x2 : Vec F S64x1 .f32) (x3 : Vec F S64x64 .f32) (x4 : Vec F S64x1 .f32) (x5 : Vec F S64x64 .f32) (x6 : Vec F S64x1 .f32) (x7 : Vec F S128x64 .f32) (x8 : Vec F S128x1 .f32) (x9 : Vec F S128x128 .f32) (x10 : Vec F S128x1 .f32) (x11 : Vec F S256x128 .f32) (x12 : Vec F S256x1 .f32) (x13 : Vec F S256x256 .f32) (x14 : Vec F S256x1 .f32) (x15 : Vec F S256x256 .f32) (x16 : Vec F S256x1 .f32) (x17 : Vec F S16x256 .f32) (x18 : Vec F S16x256 .f32) (x19 : Vec F S16x256 .f32) (x20 : Vec F S16x1 .f32) (x21 : Vec F S16x1 .f32) (x22 : Vec F S16x1 .f32) (x23 : Vec F S1x1 .f32)

/-- The one store into the first output covers its block. -/
theorem covers24
     (y : S1x64x3.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1 S1x64x3.size (by sl_kernel_rfl) y

/-- What the first output block holds after the body. -/
def outBlock24
     : Vec F S1x64x3 .f32 :=
  VO0_24.read (Elt F) (VO0_24.writes (Elt F) VO0_24.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1)

/-- The one store into the second output covers its block. -/
theorem covers25
     (y : S1x64x3.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1 S1x64x3.size (by sl_kernel_rfl) y

/-- What the second output block holds after the body. -/
def outBlock25
     : Vec F S1x64x3 .f32 :=
  VO0_25.read (Elt F) (VO0_25.writes (Elt F) VO0_25.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.1)

/-- The one store into the third output covers its block. -/
theorem covers26
     (y : S1x4x3.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.2.1 S1x4x3.size (by sl_kernel_rfl) y

/-- What the third output block holds after the body. -/
def outBlock26
     : Vec F S1x4x3 .f32 :=
  VO0_26.read (Elt F) (VO0_26.writes (Elt F) VO0_26.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).2.2.1)

end Body

/-- The three output blocks after the body at a grid point. -/
def outs (c : Dev nD) (t : Fin cfg0.N) : Vec F S1x64x3 .f32 × Vec F S1x64x3 .f32 × Vec F S1x4x3 .f32 :=
  (outBlock24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), outBlock25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t), outBlock26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t))

/-- What each window holds after the body at each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outs m c t).1
    | ⟨25, _⟩ => (outs m c t).2.1
    | ⟨26, _⟩ => (outs m c t).2.2
    | ⟨_ + 27, h⟩ => absurd h (Nat.not_lt.2 (Nat.le_add_left _ _))
  Φ _ := Pipeline.ΦA spec0 c
  q _ := fullShare
  owed _ := 0

/-- Every array is found as the region finds it. -/
theorem A_eq (c : Dev nD) (w : Fin cfg0.W) : (dats m 0 c).A w = V m c (Pipeline.arrRef spec0 w) := by
  dsimp only [dats]

/-- What each window holds after the body, one by one. -/
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = iblk m c 13 t := by dsimp only [dats]
theorem left14 (c : Dev nD) (t : Fin cfg0.N) : (dats m 0 c).after 14 t = iblk m c 14 t := by dsimp only [dats]
theorem left15 (c : Dev nD) (t : Fin cfg0.N) : (dats m 0 c).after 15 t = iblk m c 15 t := by dsimp only [dats]
theorem left16 (c : Dev nD) (t : Fin cfg0.N) : (dats m 0 c).after 16 t = iblk m c 16 t := by dsimp only [dats]
theorem left17 (c : Dev nD) (t : Fin cfg0.N) : (dats m 0 c).after 17 t = iblk m c 17 t := by dsimp only [dats]
theorem left18 (c : Dev nD) (t : Fin cfg0.N) : (dats m 0 c).after 18 t = iblk m c 18 t := by dsimp only [dats]
theorem left19 (c : Dev nD) (t : Fin cfg0.N) : (dats m 0 c).after 19 t = iblk m c 19 t := by dsimp only [dats]
theorem left20 (c : Dev nD) (t : Fin cfg0.N) : (dats m 0 c).after 20 t = iblk m c 20 t := by dsimp only [dats]
theorem left21 (c : Dev nD) (t : Fin cfg0.N) : (dats m 0 c).after 21 t = iblk m c 21 t := by dsimp only [dats]
theorem left22 (c : Dev nD) (t : Fin cfg0.N) : (dats m 0 c).after 22 t = iblk m c 22 t := by dsimp only [dats]
theorem left23 (c : Dev nD) (t : Fin cfg0.N) : (dats m 0 c).after 23 t = iblk m c 23 t := by dsimp only [dats]
theorem left24 (c : Dev nD) (t : Fin cfg0.N) : (dats m 0 c).after 24 t = (outs m c t).1 := by dsimp only [dats]
theorem left25 (c : Dev nD) (t : Fin cfg0.N) : (dats m 0 c).after 25 t = (outs m c t).2.1 := by dsimp only [dats]
theorem left26 (c : Dev nD) (t : Fin cfg0.N) : (dats m 0 c).after 26 t = (outs m c t).2.2 := by dsimp only [dats]

/-- Each input window holds its block before the body. -/
theorem held0 (c : Dev nD) (t : Fin cfg0.N) (d) : (dats m 0 c).before 0 t d = iblk m c 0 t :=
  before0_0_of m (dats m 0 c) (A_eq m c 0) (left0 m c) t d
theorem held1 (c : Dev nD) (t : Fin cfg0.N) (d) : (dats m 0 c).before 1 t d = iblk m c 1 t :=
  before0_1_of m (dats m 0 c) (A_eq m c 1) (left1 m c) t d
theorem held2 (c : Dev nD) (t : Fin cfg0.N) (d) : (dats m 0 c).before 2 t d = iblk m c 2 t :=
  before0_2_of m (dats m 0 c) (A_eq m c 2) (left2 m c) t d
theorem held3 (c : Dev nD) (t : Fin cfg0.N) (d) : (dats m 0 c).before 3 t d = iblk m c 3 t :=
  before0_3_of m (dats m 0 c) (A_eq m c 3) (left3 m c) t d
theorem held4 (c : Dev nD) (t : Fin cfg0.N) (d) : (dats m 0 c).before 4 t d = iblk m c 4 t :=
  before0_4_of m (dats m 0 c) (A_eq m c 4) (left4 m c) t d
theorem held5 (c : Dev nD) (t : Fin cfg0.N) (d) : (dats m 0 c).before 5 t d = iblk m c 5 t :=
  before0_5_of m (dats m 0 c) (A_eq m c 5) (left5 m c) t d
theorem held6 (c : Dev nD) (t : Fin cfg0.N) (d) : (dats m 0 c).before 6 t d = iblk m c 6 t :=
  before0_6_of m (dats m 0 c) (A_eq m c 6) (left6 m c) t d
theorem held7 (c : Dev nD) (t : Fin cfg0.N) (d) : (dats m 0 c).before 7 t d = iblk m c 7 t :=
  before0_7_of m (dats m 0 c) (A_eq m c 7) (left7 m c) t d
theorem held8 (c : Dev nD) (t : Fin cfg0.N) (d) : (dats m 0 c).before 8 t d = iblk m c 8 t :=
  before0_8_of m (dats m 0 c) (A_eq m c 8) (left8 m c) t d
theorem held9 (c : Dev nD) (t : Fin cfg0.N) (d) : (dats m 0 c).before 9 t d = iblk m c 9 t :=
  before0_9_of m (dats m 0 c) (A_eq m c 9) (left9 m c) t d
theorem held10 (c : Dev nD) (t : Fin cfg0.N) (d) : (dats m 0 c).before 10 t d = iblk m c 10 t :=
  before0_10_of m (dats m 0 c) (A_eq m c 10) (left10 m c) t d
theorem held11 (c : Dev nD) (t : Fin cfg0.N) (d) : (dats m 0 c).before 11 t d = iblk m c 11 t :=
  before0_11_of m (dats m 0 c) (A_eq m c 11) (left11 m c) t d
theorem held12 (c : Dev nD) (t : Fin cfg0.N) (d) : (dats m 0 c).before 12 t d = iblk m c 12 t :=
  before0_12_of m (dats m 0 c) (A_eq m c 12) (left12 m c) t d
theorem held13 (c : Dev nD) (t : Fin cfg0.N) (d) : (dats m 0 c).before 13 t d = iblk m c 13 t :=
  before0_13_of m (dats m 0 c) (A_eq m c 13) (left13 m c) t d
theorem held14 (c : Dev nD) (t : Fin cfg0.N) (d) : (dats m 0 c).before 14 t d = iblk m c 14 t :=
  before0_14_of m (dats m 0 c) (A_eq m c 14) (left14 m c) t d
theorem held15 (c : Dev nD) (t : Fin cfg0.N) (d) : (dats m 0 c).before 15 t d = iblk m c 15 t :=
  before0_15_of m (dats m 0 c) (A_eq m c 15) (left15 m c) t d
theorem held16 (c : Dev nD) (t : Fin cfg0.N) (d) : (dats m 0 c).before 16 t d = iblk m c 16 t :=
  before0_16_of m (dats m 0 c) (A_eq m c 16) (left16 m c) t d
theorem held17 (c : Dev nD) (t : Fin cfg0.N) (d) : (dats m 0 c).before 17 t d = iblk m c 17 t :=
  before0_17_of m (dats m 0 c) (A_eq m c 17) (left17 m c) t d
theorem held18 (c : Dev nD) (t : Fin cfg0.N) (d) : (dats m 0 c).before 18 t d = iblk m c 18 t :=
  before0_18_of m (dats m 0 c) (A_eq m c 18) (left18 m c) t d
theorem held19 (c : Dev nD) (t : Fin cfg0.N) (d) : (dats m 0 c).before 19 t d = iblk m c 19 t :=
  before0_19_of m (dats m 0 c) (A_eq m c 19) (left19 m c) t d
theorem held20 (c : Dev nD) (t : Fin cfg0.N) (d) : (dats m 0 c).before 20 t d = iblk m c 20 t :=
  before0_20_of m (dats m 0 c) (A_eq m c 20) (left20 m c) t d
theorem held21 (c : Dev nD) (t : Fin cfg0.N) (d) : (dats m 0 c).before 21 t d = iblk m c 21 t :=
  before0_21_of m (dats m 0 c) (A_eq m c 21) (left21 m c) t d
theorem held22 (c : Dev nD) (t : Fin cfg0.N) (d) : (dats m 0 c).before 22 t d = iblk m c 22 t :=
  before0_22_of m (dats m 0 c) (A_eq m c 22) (left22 m c) t d
theorem held23 (c : Dev nD) (t : Fin cfg0.N) (d) : (dats m 0 c).before 23 t d = iblk m c 23 t :=
  before0_23_of m (dats m 0 c) (A_eq m c 23) (left23 m c) t d

/-- What the body is given at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What the body gives back at a grid point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body at a grid point takes the one to the other. -/
theorem bodyTriple (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6, held7, held8, held9, held10, held11, held12, held13, held14, held15, held16, held17, held18, held19, held20, held21, held22, held23]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13, left14, left15, left16, left17, left18, left19, left20, left21, left22, left23, left24, left25, left26]
  unfold outs
  unfold outBlock24 outBlock25 outBlock26; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (covers24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (covers25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (covers26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The table of bodies has this body at every grid point. -/
theorem bodyRow (t : Fin cfg0.N) :
    defs₀ (F := F) .tc cfg0.body (cfg0.bodyArgs t (cfg0.slots t)) = bodyAt0 t := by
  unfold defs₀; rw [Defs.onTc_tc]

set_option maxHeartbeats 4000000 in
/-- The body as the pipeline asks for it. -/
theorem obligation (c : Dev nD) : BodyObligation (dats (F := F) m 0 c) (defs₀ (F := F)) Variants.none () Set.univ := fun t => by
  rw [bigSep_W0, bigSep_W0, bodyRow]
  exact triple_restated (bodyTriple m c t) rfl .rfl fun _ => .rfl

set_option backward.isDefEq.respectTransparency.types false in
/-- The whole run, with every counter back at zero. -/
theorem runQuiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The whole run: every array of the pipeline at its final contents. -/
theorem runArrays : θ_run defs (onTc (τ := τ) (main (F := F))) (s₀ m ρ) (Pipeline.FramePost cfgs (dats m) 0 (V m)) :=
  (θ_run defs _ _).mono (fun _ h => h.1) (runQuiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (runArrays m ρ)

/-- The frame: the arguments end as they began and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (runQuiescent m ρ))

end Cert.Proof.IdealRun

end
-- ==== Proof.Body.lean ====
/- What the body computes from what it loads, value by value. -/
module

public import proofs.«01_k».proof.Proof.Gen.KernelIdeal.Skeleton

@[expose] public section

noncomputable section

namespace Cert.Proof.Body

open Idealize.ShloMosaic Cert.KernelIdeal Cert.KernelIdeal.Gen

/-- What the body loads: the three rows of the cloud, and the other operands. -/
structure Loads where
  x : Vec Ideal S1x1x2048 .f32
  y : Vec Ideal S1x1x2048 .f32
  z : Vec Ideal S1x1x2048 .f32
  a1 : Vec Ideal S64x3 .f32
  a2 : Vec Ideal S64x1 .f32
  a3 : Vec Ideal S64x64 .f32
  a4 : Vec Ideal S64x1 .f32
  a5 : Vec Ideal S64x64 .f32
  a6 : Vec Ideal S64x1 .f32
  a7 : Vec Ideal S128x64 .f32
  a8 : Vec Ideal S128x1 .f32
  a9 : Vec Ideal S128x128 .f32
  a10 : Vec Ideal S128x1 .f32
  a11 : Vec Ideal S256x128 .f32
  a12 : Vec Ideal S256x1 .f32
  a13 : Vec Ideal S256x256 .f32
  a14 : Vec Ideal S256x1 .f32
  a15 : Vec Ideal S256x256 .f32
  a16 : Vec Ideal S256x1 .f32
  a17 : Vec Ideal S16x256 .f32
  a18 : Vec Ideal S16x256 .f32
  a19 : Vec Ideal S16x256 .f32
  a20 : Vec Ideal S16x1 .f32
  a21 : Vec Ideal S16x1 .f32
  a22 : Vec Ideal S16x1 .f32
  a23 : Vec Ideal S1x1 .f32

variable (L : Loads)

/-- The positions 0 to 2047 along a row. -/
def pos := iota Kind.tc S1x2048 32 [1] iota_S1x2048_d1_w32
/-- The positions 0 to 2047 along each of 64 rows. -/
def pos64 := iota Kind.tc S64x2048 32 [1] iota_S64x2048_d1_w32

/-- The first network's weights and biases, as the body reads them. -/
def Loads.w0t := k0_pay5 (F := Ideal) L.a1
def Loads.b0c := k0_pay6 (F := Ideal) L.a2
def Loads.w1t := k0_pay7 (F := Ideal) L.a3
def Loads.b1c := k0_pay8 (F := Ideal) L.a4
def Loads.w2t := k0_pay9 (F := Ideal) L.a5
def Loads.b2c := k0_pay10 (F := Ideal) L.a6
def Loads.w3t := k0_pay11 (F := Ideal) L.a7
def Loads.b3c := k0_pay12 (F := Ideal) L.a8
def Loads.w4t := k0_pay13 (F := Ideal) L.a9
def Loads.b4c := k0_pay14 (F := Ideal) L.a10
/-- The second network's weights and biases. -/
def Loads.v0t := k0_pay15 (F := Ideal) L.a11
def Loads.c0c := k0_pay16 (F := Ideal) L.a12
def Loads.v1t := k0_pay17 (F := Ideal) L.a13
def Loads.c1c := k0_pay18 (F := Ideal) L.a14
/-- The third layer of the second network. -/
def Loads.v2load := L.a15
def Loads.v2t := k0_pay19 (F := Ideal) L.v2load
def Loads.c2c := k0_pay20 (F := Ideal) L.a16
/-- The last layer, one coordinate at a time. -/
def Loads.wxt := k0_pay21 (F := Ideal) L.a17
def Loads.wyt := k0_pay22 (F := Ideal) L.a18
def Loads.wzt := k0_pay23 (F := Ideal) L.a19
def Loads.bxc := k0_pay24 (F := Ideal) L.a20
def Loads.byc := k0_pay25 (F := Ideal) L.a21
def Loads.bzc := k0_pay26 (F := Ideal) L.a22

/-- The three coordinate rows. -/
def Loads.X := k0_pay27 (F := Ideal) L.x
def Loads.Y := k0_pay28 (F := Ideal) L.y
def Loads.Z := k0_pay29 (F := Ideal) L.z
/-- The first seed's coordinates; of the third only the products. -/
def Loads.lx := k0_pay31 (F := Ideal) L.x
def Loads.ly := k0_pay32 (F := Ideal) L.y
def Loads.zo := k0_pay33 (F := Ideal) L.z

/-- The one-hot row of the second seed. -/
def Loads.one1 := k0_pay35 (F := Ideal) L.X L.Y L.Z pos L.lx L.ly L.zo
/-- The squared distances to the nearest of two seeds. -/
def Loads.min2 := k0_pay36 (F := Ideal) L.X L.Y L.Z pos L.lx L.ly L.zo
/-- Where `min2` is greatest. -/
def Loads.flag2 := k0_pay37 (F := Ideal) L.X L.Y L.Z pos L.lx L.ly L.zo
/-- The one-hot rows of the four seeds. -/
def Loads.stack := k0_pay38 (F := Ideal) L.X L.Y L.Z pos (k0_pay30 (F := Ideal)) L.one1 L.min2 L.flag2
/-- The seeds' first two coordinates. -/
def Loads.sx := k0_pay39 (F := Ideal) L.X L.Y L.Z pos (k0_pay30 (F := Ideal)) L.one1 L.min2 L.flag2
def Loads.sy := k0_pay40 (F := Ideal) L.X L.Y L.Z pos (k0_pay30 (F := Ideal)) L.one1 L.min2 L.flag2
/-- The sixteen-way search of the first patch's threshold. -/
def Loads.search0 := Scf.fold (fun (_ : Fin 10) u => (k0_pay49 (F := Ideal) L.X L.Y L.Z L.stack L.sx L.sy u.1 u.2, k0_pay50 (F := Ideal) L.X L.Y L.Z L.stack L.sx L.sy u.1 u.2)) (k0_pay45 (F := Ideal), k0_pay46 (F := Ideal) L.X L.Y L.Z L.stack L.sx L.sy)
/-- The squared distances of the points to the seeds. -/
def Loads.dd := k0_pay43 (F := Ideal) L.X L.Y L.Z L.stack L.sx L.sy
/-- The bounds it ends with. -/
def Loads.lo0 := L.search0.1
def Loads.hi0 := L.search0.2
/-- The second patch's row, and its greatest entry. -/
def Loads.dd1 := k0_pay51 (F := Ideal) L.X L.Y L.Z L.stack L.sx L.sy
def Loads.top1 := k0_pay53 (F := Ideal) L.X L.Y L.Z L.stack L.sx L.sy
/-- The sixteen-way search of the other three. -/
def Loads.search1 := Scf.fold (fun (_ : Fin 10) u => (k0_pay58 (F := Ideal) (k0_pay44 (F := Ideal)) L.dd1 u.1 u.2, k0_pay59 (F := Ideal) (k0_pay44 (F := Ideal)) L.dd1 u.1 u.2)) (k0_pay52 (F := Ideal), k0_pay55 (F := Ideal) L.top1 (k0_pay54 (F := Ideal)))
def Loads.search2 := Scf.fold (fun (_ : Fin 10) u => (k0_pay64 (F := Ideal) L.dd (k0_pay44 (F := Ideal)) u.1 u.2, k0_pay65 (F := Ideal) L.dd (k0_pay44 (F := Ideal)) u.1 u.2)) (k0_pay60 (F := Ideal), k0_pay61 (F := Ideal) L.dd)
def Loads.search3 := Scf.fold (fun (_ : Fin 10) u => (k0_pay70 (F := Ideal) L.dd (k0_pay44 (F := Ideal)) u.1 u.2, k0_pay71 (F := Ideal) L.dd (k0_pay44 (F := Ideal)) u.1 u.2)) (k0_pay66 (F := Ideal), k0_pay67 (F := Ideal) L.dd)
/-- The bisection of the four thresholds. -/
def Loads.halve := Scf.fold (fun (_ : Fin 8) u => (k0_pay76 (F := Ideal) L.dd u.1 u.2, k0_pay77 (F := Ideal) L.dd u.1 u.2)) (k0_pay72 (F := Ideal) L.lo0 L.search1.1 L.search2.1 L.search3.1, k0_pay73 (F := Ideal) L.hi0 L.search1.2 L.search2.2 L.search3.2)

/-- Which points are in which patch. -/
def Loads.mask := k0_pay78 (F := Ideal) L.dd L.halve.2
/-- The means of the patches. -/
def Loads.mx := k0_pay79 (F := Ideal) L.X L.dd L.halve.2
/-- The second row, once for each patch. -/
def Loads.yy := k0_pay80 (F := Ideal) L.Y
def Loads.my := k0_pay81 (F := Ideal) L.mask L.yy
def Loads.mz := k0_pay82 (F := Ideal) L.Z L.mask
/-- The greatest length in each patch. -/
def Loads.norm := k0_pay86 (F := Ideal) L.X L.Y L.Z L.mask L.mx L.yy
/-- The points in the patches' coordinates. -/
def Loads.xn := k0_pay87 (F := Ideal) L.X L.Y L.Z L.mask L.mx L.yy
def Loads.yn := k0_pay88 (F := Ideal) L.X L.Y L.Z L.mask L.mx L.yy
def Loads.zn := k0_pay89 (F := Ideal) L.X L.Y L.Z L.mask L.mx L.yy

/-- The softmax temperature. -/
def Loads.tt := k0_pay90 (F := Ideal) L.a23
/-- One patch's points and features. -/
def Loads.xn0 := k0_pay91 (F := Ideal) L.X L.Y L.Z L.mask L.mx L.yy
def Loads.yn0 := k0_pay92 (F := Ideal) L.X L.Y L.Z L.mask L.mx L.yy
def Loads.zn0 := k0_pay93 (F := Ideal) L.w0t L.X L.Y L.Z L.mask L.mx L.yy

def Loads.w00 := k0_pay94 (F := Ideal) L.w0t
def Loads.pool0 := k0_pay95 (F := Ideal) L.w0t L.b0c L.w1t L.b1c L.w2t L.b2c L.w3t L.b3c L.w4t L.b4c L.mask L.xn0 L.yn0 L.zn0 L.w00
def Loads.yn1 := k0_pay96 (F := Ideal) L.yn
def Loads.zn1 := k0_pay97 (F := Ideal) L.zn
def Loads.w01 := k0_pay98 (F := Ideal) L.w0t
def Loads.xn1 := k0_pay99 (F := Ideal) L.xn
def Loads.pool1 := k0_pay100 (F := Ideal) L.w0t L.b0c L.w1t L.b1c L.w2t L.b2c L.w3t L.b3c L.w4t L.b4c L.mask L.yn1 L.zn1 L.w01 L.xn1
def Loads.xn2 := k0_pay101 (F := Ideal) L.xn
def Loads.yn2 := k0_pay102 (F := Ideal) L.yn
def Loads.zn2 := k0_pay103 (F := Ideal) L.zn
def Loads.w02 := k0_pay104 (F := Ideal) L.w0t
def Loads.pool2 := k0_pay105 (F := Ideal) L.w0t L.b0c L.w1t L.b1c L.w2t L.b2c L.w3t L.b3c L.w4t L.b4c L.mask L.xn2 L.yn2 L.zn2 L.w02
def Loads.xn3 := k0_pay106 (F := Ideal) L.xn
def Loads.yn3 := k0_pay107 (F := Ideal) L.yn
def Loads.pool3 := k0_pay108 (F := Ideal) L.w0t L.b0c L.w1t L.b1c L.w2t L.b2c L.w3t L.b3c L.w4t L.b4c L.mask L.zn L.xn3 L.yn3
/-- The sixteen points of each patch, one coordinate at a time. -/
def Loads.qx := k0_pay110 (F := Ideal) L.v0t L.c0c L.v1t L.c1c L.v2t L.c2c L.wxt L.bxc L.pool0 L.pool1 L.pool2 L.pool3
def Loads.qy := k0_pay111 (F := Ideal) L.v0t L.c0c L.v1t L.c1c L.v2t L.c2c L.wyt L.byc L.pool0 L.pool1 L.pool2 L.pool3
def Loads.qz := k0_pay112 (F := Ideal) L.v0t L.c0c L.v1t L.c1c L.v2t L.c2c L.wzt L.bzc L.pool0 L.pool1 L.pool2 L.pool3
/-- The points once for each of the sixteen. -/
def Loads.XN := k0_pay113 (F := Ideal) L.xn
def Loads.YN := k0_pay114 (F := Ideal) L.yn
def Loads.ZN := k0_pay115 (F := Ideal) L.zn

/-- The sixteen points as a column. -/
def Loads.QX := k0_pay116 (F := Ideal) L.qx
def Loads.QY := k0_pay117 (F := Ideal) L.qy
def Loads.QZ := k0_pay118 (F := Ideal) L.qz
/-- The squared distances of the points to the sixteen, and those of a patch alone. -/
def Loads.dp := k0_pay119 (F := Ideal) L.zn L.qx L.qy L.qz L.XN L.YN
def Loads.work0 := k0_pay120 (F := Ideal) L.mask L.zn L.qx L.qy L.qz L.XN L.YN
/-- The least of them. -/
def Loads.dmin := k0_pay121 (F := Ideal) L.work0
/-- The rounds that pick the seven nearest. -/
def Loads.hits4 := k0_pay127 (F := Ideal) L.work0 pos64 0#1
def Loads.work4 := k0_pay128 (F := Ideal) L.work0 pos64
def Loads.hit5 := k0_pay129 (F := Ideal) L.work0 pos64
/-- The seven nearest. -/
def Loads.group := k0_pay130 (F := Ideal) pos64 L.hits4 L.work4 L.hit5
/-- The exponent before the division. -/
def Loads.gap := k0_pay131 (F := Ideal) L.dp L.dmin
def Loads.ttr := k0_pay132 (F := Ideal) L.tt
/-- The projected points. -/
def Loads.prx := k0_pay134 (F := Ideal) L.XN L.group L.gap L.ttr
def Loads.pry := k0_pay135 (F := Ideal) L.YN L.group L.gap L.ttr
def Loads.prz := k0_pay136 (F := Ideal) L.ZN L.group L.gap L.ttr
/-- Lengths and means, once for each of the sixteen. -/
def Loads.NORM := k0_pay137 (F := Ideal) L.norm
def Loads.MX := k0_pay138 (F := Ideal) L.mx
def Loads.my0 := k0_pay139 (F := Ideal) L.my
def Loads.my1 := k0_pay140 (F := Ideal) L.my
def Loads.my2 := k0_pay141 (F := Ideal) L.my
def Loads.my3 := k0_pay142 (F := Ideal) L.my

/-- What is stored as the projected points. -/
def Loads.projOut := k0_pay3 (F := Ideal) L.mz L.prx L.pry L.prz L.NORM L.MX L.my0 L.my1 L.my2 L.my3
/-- What is stored as the simplified points. -/
def Loads.simpOut := k0_pay4 (F := Ideal) L.mz L.QX L.QY L.QZ L.NORM L.MX L.my0 L.my1 L.my2 L.my3
/-- What is stored as the seeds. -/
def Loads.seedsOut := k0_pay42 (F := Ideal) L.Z L.stack L.sx L.sy

end Cert.Proof.Body

end
-- ==== Proof.Blocks.lean ====
/- The output blocks, in terms of the input blocks. -/
module

public import proofs.«01_k».proof.Proof.Body
public import proofs.«01_k».proof.Proof.IdealRun
public import Idealize.ShloMosaic.Lib.Pipeline.Value

@[expose] public section

noncomputable section

namespace Cert.Proof.Blocks

open Cert.KernelIdeal Cert.KernelIdeal.Gen Idealize.ShloMosaic Idealize.ShloMosaic.TcCoe Idealize.SL.Sem Cert.Proof.IdealRun Cert.Proof.Body

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole block reads the block. -/
theorem load_whole {F : FTy → Type} [FloatOps F] {sh : Shape} {e : EltTy} (M : Memref sig .tc .vmem sh e) (h : M.IsWhole) (x : Vec F sh e) {z : Fin sh.rank → Nat}
    (hz : z = fun _ => 0) (inb) :
    View.readAt (Elt F) M.view (Rect.unit z sh.size inb).toLoadRect (h.unread x) = x := by
  rw [View.readAt_eq_ld, h.read_unread, View.ld_unit_zero hz]

variable (m : (ℓ : Loc nD τ sig) → Buf (Elt Ideal) ℓ)

/-- What the body loads at a grid point. -/
def loads (c : Dev nD) (t : Fin cfg0.N) : Loads where
  x := View.ld (S := S1x3x2048) (iblk m c 0 t) (Rect.unit (s := S1x3x2048) ![0, 0, 0] S1x1x2048.size inb_S1x3x2048_S1x1x2048_0_0_0)
  y := View.ld (S := S1x3x2048) (iblk m c 0 t) (Rect.unit (s := S1x3x2048) ![0, 1, 0] S1x1x2048.size inb_S1x3x2048_S1x1x2048_0_1_0)
  z := View.ld (S := S1x3x2048) (iblk m c 0 t) (Rect.unit (s := S1x3x2048) ![0, 2, 0] S1x1x2048.size inb_S1x3x2048_S1x1x2048_0_2_0)
  a1 := iblk m c 1 t
  a2 := iblk m c 2 t
  a3 := iblk m c 3 t
  a4 := iblk m c 4 t
  a5 := iblk m c 5 t
  a6 := iblk m c 6 t
  a7 := iblk m c 7 t
  a8 := iblk m c 8 t
  a9 := iblk m c 9 t
  a10 := iblk m c 10 t
  a11 := iblk m c 11 t
  a12 := iblk m c 12 t
  a13 := iblk m c 13 t
  a14 := iblk m c 14 t
  a15 := iblk m c 15 t
  a16 := iblk m c 16 t
  a17 := iblk m c 17 t
  a18 := iblk m c 18 t
  a19 := iblk m c 19 t
  a20 := iblk m c 20 t
  a21 := iblk m c 21 t
  a22 := iblk m c 22 t
  a23 := iblk m c 23 t

/-- The same, through the buffers. -/
def loaded (c : Dev nD) (t : Fin cfg0.N) : Loads where
  x := View.readAt (Elt Ideal) (ms0_0 t).view (Rect.unit (s := S1x3x2048) ![0, 0, 0] S1x1x2048.size inb_S1x3x2048_S1x1x2048_0_0_0).toLoadRect ((hs0_0 t).unread (iblk m c 0 t))
  y := View.readAt (Elt Ideal) (ms0_0 t).view (Rect.unit (s := S1x3x2048) ![0, 1, 0] S1x1x2048.size inb_S1x3x2048_S1x1x2048_0_1_0).toLoadRect ((hs0_0 t).unread (iblk m c 0 t))
  z := View.readAt (Elt Ideal) (ms0_0 t).view (Rect.unit (s := S1x3x2048) ![0, 2, 0] S1x1x2048.size inb_S1x3x2048_S1x1x2048_0_2_0).toLoadRect ((hs0_0 t).unread (iblk m c 0 t))
  a1 := View.readAt (Elt Ideal) (ms0_1 t).view (Rect.unit ![0, 0] S64x3.size inb_S64x3_S64x3_0_0).toLoadRect ((hs0_1 t).unread (iblk m c 1 t))
  a2 := View.readAt (Elt Ideal) (ms0_2 t).view (Rect.unit ![0, 0] S64x1.size inb_S64x1_S64x1_0_0).toLoadRect ((hs0_2 t).unread (iblk m c 2 t))
  a3 := View.readAt (Elt Ideal) (ms0_3 t).view (Rect.unit ![0, 0] S64x64.size inb_S64x64_S64x64_0_0).toLoadRect ((hs0_3 t).unread (iblk m c 3 t))
  a4 := View.readAt (Elt Ideal) (ms0_4 t).view (Rect.unit ![0, 0] S64x1.size inb_S64x1_S64x1_0_0).toLoadRect ((hs0_4 t).unread (iblk m c 4 t))
  a5 := View.readAt (Elt Ideal) (ms0_5 t).view (Rect.unit ![0, 0] S64x64.size inb_S64x64_S64x64_0_0).toLoadRect ((hs0_5 t).unread (iblk m c 5 t))
  a6 := View.readAt (Elt Ideal) (ms0_6 t).view (Rect.unit ![0, 0] S64x1.size inb_S64x1_S64x1_0_0).toLoadRect ((hs0_6 t).unread (iblk m c 6 t))
  a7 := View.readAt (Elt Ideal) (ms0_7 t).view (Rect.unit ![0, 0] S128x64.size inb_S128x64_S128x64_0_0).toLoadRect ((hs0_7 t).unread (iblk m c 7 t))
  a8 := View.readAt (Elt Ideal) (ms0_8 t).view (Rect.unit ![0, 0] S128x1.size inb_S128x1_S128x1_0_0).toLoadRect ((hs0_8 t).unread (iblk m c 8 t))
  a9 := View.readAt (Elt Ideal) (ms0_9 t).view (Rect.unit ![0, 0] S128x128.size inb_S128x128_S128x128_0_0).toLoadRect ((hs0_9 t).unread (iblk m c 9 t))
  a10 := View.readAt (Elt Ideal) (ms0_10 t).view (Rect.unit ![0, 0] S128x1.size inb_S128x1_S128x1_0_0).toLoadRect ((hs0_10 t).unread (iblk m c 10 t))
  a11 := View.readAt (Elt Ideal) (ms0_11 t).view (Rect.unit ![0, 0] S256x128.size inb_S256x128_S256x128_0_0).toLoadRect ((hs0_11 t).unread (iblk m c 11 t))
  a12 := View.readAt (Elt Ideal) (ms0_12 t).view (Rect.unit ![0, 0] S256x1.size inb_S256x1_S256x1_0_0).toLoadRect ((hs0_12 t).unread (iblk m c 12 t))
  a13 := View.readAt (Elt Ideal) (ms0_13 t).view (Rect.unit ![0, 0] S256x256.size inb_S256x256_S256x256_0_0).toLoadRect ((hs0_13 t).unread (iblk m c 13 t))
  a14 := View.readAt (Elt Ideal) (ms0_14 t).view (Rect.unit ![0, 0] S256x1.size inb_S256x1_S256x1_0_0).toLoadRect ((hs0_14 t).unread (iblk m c 14 t))
  a15 := View.readAt (Elt Ideal) (ms0_15 t).view (Rect.unit ![0, 0] S256x256.size inb_S256x256_S256x256_0_0).toLoadRect ((hs0_15 t).unread (iblk m c 15 t))
  a16 := View.readAt (Elt Ideal) (ms0_16 t).view (Rect.unit ![0, 0] S256x1.size inb_S256x1_S256x1_0_0).toLoadRect ((hs0_16 t).unread (iblk m c 16 t))
  a17 := View.readAt (Elt Ideal) (ms0_17 t).view (Rect.unit ![0, 0] S16x256.size inb_S16x256_S16x256_0_0).toLoadRect ((hs0_17 t).unread (iblk m c 17 t))
  a18 := View.readAt (Elt Ideal) (ms0_18 t).view (Rect.unit ![0, 0] S16x256.size inb_S16x256_S16x256_0_0).toLoadRect ((hs0_18 t).unread (iblk m c 18 t))
  a19 := View.readAt (Elt Ideal) (ms0_19 t).view (Rect.unit ![0, 0] S16x256.size inb_S16x256_S16x256_0_0).toLoadRect ((hs0_19 t).unread (iblk m c 19 t))
  a20 := View.readAt (Elt Ideal) (ms0_20 t).view (Rect.unit ![0, 0] S16x1.size inb_S16x1_S16x1_0_0).toLoadRect ((hs0_20 t).unread (iblk m c 20 t))
  a21 := View.readAt (Elt Ideal) (ms0_21 t).view (Rect.unit ![0, 0] S16x1.size inb_S16x1_S16x1_0_0).toLoadRect ((hs0_21 t).unread (iblk m c 21 t))
  a22 := View.readAt (Elt Ideal) (ms0_22 t).view (Rect.unit ![0, 0] S16x1.size inb_S16x1_S16x1_0_0).toLoadRect ((hs0_22 t).unread (iblk m c 22 t))
  a23 := View.readAt (Elt Ideal) (ms0_23 t).view (Rect.unit ![0, 0] S1x1.size inb_S1x1_S1x1_0_0).toLoadRect ((hs0_23 t).unread (iblk m c 23 t))

theorem loaded_eq (c : Dev nD) (t : Fin cfg0.N) : loaded m c t = loads m c t := by
  unfold loaded loads
  rw [Loads.mk.injEq]
  exact ⟨by rw [View.readAt_eq_ld, (hs0_0 t).read_unread], by rw [View.readAt_eq_ld, (hs0_0 t).read_unread],
    by rw [View.readAt_eq_ld, (hs0_0 t).read_unread], load_whole _ (hs0_1 t) _ zero2 _, load_whole _ (hs0_2 t) _ zero2 _, load_whole _ (hs0_3 t) _ zero2 _, load_whole _ (hs0_4 t) _ zero2 _, load_whole _ (hs0_5 t) _ zero2 _, load_whole _ (hs0_6 t) _ zero2 _, load_whole _ (hs0_7 t) _ zero2 _, load_whole _ (hs0_8 t) _ zero2 _, load_whole _ (hs0_9 t) _ zero2 _, load_whole _ (hs0_10 t) _ zero2 _, load_whole _ (hs0_11 t) _ zero2 _, load_whole _ (hs0_12 t) _ zero2 _, load_whole _ (hs0_13 t) _ zero2 _, load_whole _ (hs0_14 t) _ zero2 _, load_whole _ (hs0_15 t) _ zero2 _, load_whole _ (hs0_16 t) _ zero2 _, load_whole _ (hs0_17 t) _ zero2 _, load_whole _ (hs0_18 t) _ zero2 _, load_whole _ (hs0_19 t) _ zero2 _, load_whole _ (hs0_20 t) _ zero2 _, load_whole _ (hs0_21 t) _ zero2 _, load_whole _ (hs0_22 t) _ zero2 _, load_whole _ (hs0_23 t) _ zero2 _⟩

/-- The three output blocks, as what one store each leaves. -/
theorem seeds_store (c : Dev nD) (t : Fin cfg0.N) : (outs m c t).2.2 = VO0_26.read (Elt Ideal) (VO0_26.writes (Elt Ideal) VO0_26.junk
    [⟨Rect.unit ![0, 0, 0] S1x4x3.size inb_S1x4x3_S1x4x3_0_0_0, (loaded m c t).seedsOut⟩]) := by
  sl_kernel_rfl

theorem simp_store (c : Dev nD) (t : Fin cfg0.N) : (outs m c t).2.1 = VO0_25.read (Elt Ideal) (VO0_25.writes (Elt Ideal) VO0_25.junk
    [⟨Rect.unit ![0, 0, 0] S1x64x3.size inb_S1x64x3_S1x64x3_0_0_0, (loaded m c t).simpOut⟩]) := by
  sl_kernel_rfl

theorem proj_store (c : Dev nD) (t : Fin cfg0.N) : (outs m c t).1 = VO0_24.read (Elt Ideal) (VO0_24.writes (Elt Ideal) VO0_24.junk
    [⟨Rect.unit ![0, 0, 0] S1x64x3.size inb_S1x64x3_S1x64x3_0_0_0, (loaded m c t).projOut⟩]) := by
  sl_kernel_rfl

/-- The third block is the seeds, the second the simplified points, the first the projected points. -/
theorem seeds_block (c : Dev nD) (t : Fin cfg0.N) : (outs m c t).2.2 = (loads m c t).seedsOut := by
  rw [← loaded_eq, seeds_store, View.read_writes_junk_eq_canon, View.canon_unit_zero zero3]

theorem simp_block (c : Dev nD) (t : Fin cfg0.N) : (outs m c t).2.1 = (loads m c t).simpOut := by
  rw [← loaded_eq, simp_store, View.read_writes_junk_eq_canon, View.canon_unit_zero zero3]

theorem proj_block (c : Dev nD) (t : Fin cfg0.N) : (outs m c t).1 = (loads m c t).projOut := by
  rw [← loaded_eq, proj_store, View.read_writes_junk_eq_canon, View.canon_unit_zero zero3]

end Cert.Proof.Blocks

end
-- ==== Proof.Spec.lean ====
/- The function both programs compute, for one cloud of 2048 points. -/
module

public import Idealize.ShloMosaic.PureOps
public import Idealize.ShloMosaic.Lib.Pointwise

@[expose] public section

noncomputable section

namespace Cert.Proof.Spec

open Idealize.ShloMosaic

/-- A point of the space. -/
abbrev Pt := Fin 3 → EReal
/-- A cloud of points. -/
abbrev Cloud := Fin 2048 → Pt

/-- The squared distance of two points. -/
def dist2 (p q : Pt) : EReal := ∑ c, (p c - q c) * (p c - q c)

/-- Position `a` holds a larger value than position `b`. -/
def larger {n : ℕ} (f : Fin n → EReal) (a b : Fin n) : Bool :=
  FloatOps.cmpfTotal (F := Ideal) (φ := .f32) .gt (f a) (f b) == 1#1

/-- The position of the `k`-th largest value, equal values in the order of their positions. -/
def top {n : ℕ} (f : Fin n → EReal) (k : Fin n) : Fin n := sortedFrom (larger f) k

/-- The first position of the largest value. -/
def firstMax (f : Fin 2048 → EReal) : Fin 2048 := top f 0

/-- The first squared distance of every point, before any seed is known. -/
def start : EReal := Ideal.ofBits .f32 0x501502F9#32

/-- The squared distance to the nearest seed, with one seed. -/
def run1 (P : Cloud) (n : Fin 2048) : EReal := min start (dist2 (P n) (P 0))
/-- The second seed. -/
def idx1 (P : Cloud) : Fin 2048 := firstMax (run1 P)
/-- The squared distance to the nearest seed, with two seeds. -/
def run2 (P : Cloud) (n : Fin 2048) : EReal := min (run1 P n) (dist2 (P n) (P (idx1 P)))
/-- The third seed. -/
def idx2 (P : Cloud) : Fin 2048 := firstMax (run2 P)
/-- The squared distance to the nearest seed, with three seeds. -/
def run3 (P : Cloud) (n : Fin 2048) : EReal := min (run2 P n) (dist2 (P n) (P (idx2 P)))
/-- The fourth seed. -/
def idx3 (P : Cloud) : Fin 2048 := firstMax (run3 P)

/-- The positions of the four seeds. -/
def seed (P : Cloud) : Fin 4 → Fin 2048 := ![0, idx1 P, idx2 P, idx3 P]

/-- The squared distance of each point to a seed. -/
def d2 (P : Cloud) (p : Fin 4) (n : Fin 2048) : EReal := dist2 (P (seed P p)) (P n)

/-- The 256 points nearest to a seed, nearest first. -/
def knn (P : Cloud) (p : Fin 4) (k : Fin 256) : Fin 2048 := top (fun n => -d2 P p n) ⟨k.val, by omega⟩

/-- The mean of a seed's 256 nearest points. -/
def mean (P : Cloud) (p : Fin 4) (c : Fin 3) : EReal :=
  Ideal.div (∑ k, P (knn P p k) c) (Ideal.ofBits .f32 0x43800000#32)

/-- A point seen from the mean of a patch. -/
def cen (P : Cloud) (p : Fin 4) (n : Fin 2048) (c : Fin 3) : EReal := P n c - mean P p c

/-- The squared length of a centred point. -/
def sqn (P : Cloud) (p : Fin 4) (n : Fin 2048) : EReal := ∑ c, cen P p n c * cen P p n c

/-- The greatest length in a patch. -/
def norm (P : Cloud) (p : Fin 4) : EReal :=
  Finset.univ.fold max (Ideal.ofBits .f32 0xFF800000#32)
    fun k : Fin 256 => Ideal.sqrt (sqn P p (knn P p k) + Ideal.ofBits .f32 0x2B8CBCCC#32)

/-- A point in the coordinates of a patch. -/
def pat (P : Cloud) (p : Fin 4) (n : Fin 2048) (c : Fin 3) : EReal := Ideal.div (cen P p n c) (norm P p)

/-- One dense layer before its activation. -/
def dense {a b : ℕ} (w : Fin a → Fin b → EReal) (c : Fin b → EReal) (h : Fin a → EReal) (j : Fin b) : EReal :=
  (∑ i, h i * w i j) + c j

/-- One dense layer with its activation. -/
def layer {a b : ℕ} (w : Fin a → Fin b → EReal) (c : Fin b → EReal) (h : Fin a → EReal) (j : Fin b) : EReal :=
  max (dense w c h j) 0

/-- The weights. -/
structure Par where
  w0 : Fin 3 → Fin 64 → EReal
  b0 : Fin 64 → EReal
  w1 : Fin 64 → Fin 64 → EReal
  b1 : Fin 64 → EReal
  w2 : Fin 64 → Fin 64 → EReal
  b2 : Fin 64 → EReal
  w3 : Fin 64 → Fin 128 → EReal
  b3 : Fin 128 → EReal
  w4 : Fin 128 → Fin 128 → EReal
  b4 : Fin 128 → EReal
  v0 : Fin 128 → Fin 256 → EReal
  c0 : Fin 256 → EReal
  v1 : Fin 256 → Fin 256 → EReal
  c1 : Fin 256 → EReal
  v2 : Fin 256 → Fin 256 → EReal
  c2 : Fin 256 → EReal
  v3 : Fin 256 → Fin 48 → EReal
  c3 : Fin 48 → EReal
  sigma : EReal

/-- The features of one point. -/
def enc (A : Par) (x : Pt) : Fin 128 → EReal :=
  layer A.w4 A.b4 (layer A.w3 A.b3 (layer A.w2 A.b2 (layer A.w1 A.b1 (layer A.w0 A.b0 x))))

/-- The features of a patch: the greatest over its points. -/
def feat (A : Par) (P : Cloud) (p : Fin 4) (j : Fin 128) : EReal :=
  Finset.univ.fold max (Ideal.ofBits .f32 0xFF800000#32) fun k : Fin 256 => enc A (pat P p (knn P p k)) j

/-- What the second network makes of a patch's features. -/
def hid (A : Par) (P : Cloud) (p : Fin 4) : Fin 256 → EReal :=
  layer A.v2 A.c2 (layer A.v1 A.c1 (layer A.v0 A.c0 (feat A P p)))

/-- The sixteen points of a patch in the patch's coordinates. -/
def net (A : Par) (P : Cloud) (p : Fin 4) (o : Fin 16) (c : Fin 3) : EReal :=
  dense A.v3 A.c3 (hid A P p) ⟨o.val * 3 + c.val, by omega⟩

/-- The simplified points. -/
def simp (A : Par) (P : Cloud) (p : Fin 4) (o : Fin 16) (c : Fin 3) : EReal :=
  net A P p o c * norm P p + mean P p c

end Cert.Proof.Spec

end
-- ==== Proof.Arrays.lean ====
/- The result arrays, block by block. -/
module

public import proofs.«01_k».proof.Proof.Blocks
public import proofs.«01_k».proof.Proof.Spec

@[expose] public section

noncomputable section

namespace Cert.Proof.Arrays

open Cert.KernelIdeal Cert.KernelIdeal.Gen Idealize.ShloMosaic Idealize.ShloMosaic.TcCoe Idealize.SL.Sem Cert.Proof.IdealRun Cert.Proof.Body Cert.Proof.Blocks

variable (m : (ℓ : Loc nD τ sig) → Buf (Elt Ideal) ℓ)

/-- The batch entry of a grid point, and the grid point of a batch entry. -/
def entry (t : Fin cfg0.N) : Fin 64 := ⟨t.val, t.isLt.trans_le (by decide +kernel : cfg0.N ≤ 64)⟩
def point (b : Fin 64) : Fin cfg0.N := ⟨b.val, b.isLt.trans_le (by decide +kernel : 64 ≤ cfg0.N)⟩

/-- The block index of the cloud and of each result is the grid point. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index24 : ∀ t : Fin cfg0.N, win0_24.index t (0 : Fin 3) = t.val ∧ win0_24.index t (1 : Fin 3) = 0 ∧ win0_24.index t (2 : Fin 3) = 0 :=
  (by decide +kernel : ∀ t : Fin grid0.N, _)
theorem index25 : ∀ t : Fin cfg0.N, win0_25.index t (0 : Fin 3) = t.val ∧ win0_25.index t (1 : Fin 3) = 0 ∧ win0_25.index t (2 : Fin 3) = 0 :=
  (by decide +kernel : ∀ t : Fin grid0.N, _)
theorem index26 : ∀ t : Fin cfg0.N, win0_26.index t (0 : Fin 3) = t.val ∧ win0_26.index t (1 : Fin 3) = 0 ∧ win0_26.index t (2 : Fin 3) = 0 :=
  (by decide +kernel : ∀ t : Fin grid0.N, _)

theorem emb0 (t : Fin cfg0.N) (k : Fin 3) (n : Fin 2048) : ((cfg0.win 0).blk t).view.emb (ix3 (0 : Fin 1) k n) = ix3 (entry t) k n := by
  obtain ⟨e0, e1, e2⟩ := index0 t
  funext a; apply Fin.ext
  match a with
  | ⟨0, _⟩ => show win0_0.index t (0 : Fin 3) * 1 + 1 * 0 = t.val; omega
  | ⟨1, _⟩ => show win0_0.index t (1 : Fin 3) * 3 + 1 * k.val = k.val; omega
  | ⟨2, _⟩ => show win0_0.index t (2 : Fin 3) * 2048 + 1 * n.val = n.val; omega

theorem emb24 (t : Fin cfg0.N) (j : S1x64x3.Idx) : ((cfg0.win 24).blk t).view.emb j = ix3 (entry t) (j 1) (j 2) := by
  obtain ⟨e0, e1, e2⟩ := index24 t
  have h0 : (j 0).val = 0 := by have : (j 0).val < 1 := (j 0).isLt; omega
  funext a; apply Fin.ext
  match a with
  | ⟨0, _⟩ => show win0_24.index t (0 : Fin 3) * 1 + 1 * (j 0).val = t.val; omega
  | ⟨1, _⟩ => show win0_24.index t (1 : Fin 3) * 64 + 1 * (j 1).val = (j 1).val; omega
  | ⟨2, _⟩ => show win0_24.index t (2 : Fin 3) * 3 + 1 * (j 2).val = (j 2).val; omega

theorem emb25 (t : Fin cfg0.N) (j : S1x64x3.Idx) : ((cfg0.win 25).blk t).view.emb j = ix3 (entry t) (j 1) (j 2) := by
  obtain ⟨e0, e1, e2⟩ := index25 t
  have h0 : (j 0).val = 0 := by have : (j 0).val < 1 := (j 0).isLt; omega
  funext a; apply Fin.ext
  match a with
  | ⟨0, _⟩ => show win0_25.index t (0 : Fin 3) * 1 + 1 * (j 0).val = t.val; omega
  | ⟨1, _⟩ => show win0_25.index t (1 : Fin 3) * 64 + 1 * (j 1).val = (j 1).val; omega
  | ⟨2, _⟩ => show win0_25.index t (2 : Fin 3) * 3 + 1 * (j 2).val = (j 2).val; omega

theorem emb26 (t : Fin cfg0.N) (j : S1x4x3.Idx) : ((cfg0.win 26).blk t).view.emb j = ix3 (entry t) (j 1) (j 2) := by
  obtain ⟨e0, e1, e2⟩ := index26 t
  have h0 : (j 0).val = 0 := by have : (j 0).val < 1 := (j 0).isLt; omega
  funext a; apply Fin.ext
  match a with
  | ⟨0, _⟩ => show win0_26.index t (0 : Fin 3) * 1 + 1 * (j 0).val = t.val; omega
  | ⟨1, _⟩ => show win0_26.index t (1 : Fin 3) * 4 + 1 * (j 1).val = (j 1).val; omega
  | ⟨2, _⟩ => show win0_26.index t (2 : Fin 3) * 3 + 1 * (j 2).val = (j 2).val; omega

/-- The cloud's block at a grid point. -/
theorem cloud_block (c : Dev nD) (t : Fin cfg0.N) (k : Fin 3) (n : Fin 2048) :
    iblk m c 0 t (ix3 (0 : Fin 1) k n) = m ((c : Thread nD τ).loc main_arg0) (ix3 (entry t) k n) := by
  show V m c main_arg0 (((cfg0.win 0).blk t).view.emb (ix3 (0 : Fin 1) k n)) = _
  rw [emb0, V_main_arg0]

/-- The result arrays, from the blocks. -/
def projArr (c : Dev nD) : Vec Ideal S64x64x3 .f32 := fun i => (loads m c (point (i 0))).projOut (ix3 0 (i 1) (i 2))
def simpArr (c : Dev nD) : Vec Ideal S64x64x3 .f32 := fun i => (loads m c (point (i 0))).simpOut (ix3 0 (i 1) (i 2))
def seedsArr (c : Dev nD) : Vec Ideal S64x4x3 .f32 := fun i => (loads m c (point (i 0))).seedsOut (ix3 0 (i 1) (i 2))

theorem ix3_eta {a b : ℕ} (j : (Shape.Idx ⟨3, ![1, a, b]⟩)) : ix3 (0 : Fin 1) (j 1) (j 2) = j := by
  funext x
  match x with
  | ⟨0, _⟩ => exact (Subsingleton.elim (α := Fin 1) _ _)
  | ⟨1, _⟩ => rfl
  | ⟨2, _⟩ => rfl

theorem index_eta {a b : ℕ} (i : (Shape.Idx ⟨3, ![64, a, b]⟩)) : ix3 (entry (point (i 0))) (i 1) (i 2) = i := by
  funext x
  match x with
  | ⟨0, _⟩ => rfl
  | ⟨1, _⟩ => rfl
  | ⟨2, _⟩ => rfl

theorem flushed26 (c : Dev nD) (t : Fin cfg0.N) :
    (dats m 0 c).flushed 26 t = ((cfg0.win 26).blk t).view.read (Elt Ideal) (seedsArr m c) := by
  have h : (dats m 0 c).flushed 26 t = (loads m c t).seedsOut := (left26 m c t).trans (seeds_block m c t)
  rw [h]
  funext j
  show _ = seedsArr m c (((cfg0.win 26).blk t).view.emb j)
  rw [emb26]
  exact congrArg (loads m c t).seedsOut (ix3_eta j).symm

theorem flushed25 (c : Dev nD) (t : Fin cfg0.N) :
    (dats m 0 c).flushed 25 t = ((cfg0.win 25).blk t).view.read (Elt Ideal) (simpArr m c) := by
  have h : (dats m 0 c).flushed 25 t = (loads m c t).simpOut := (left25 m c t).trans (simp_block m c t)
  rw [h]
  funext j
  show _ = simpArr m c (((cfg0.win 25).blk t).view.emb j)
  rw [emb25]
  exact congrArg (loads m c t).simpOut (ix3_eta j).symm

theorem flushed24 (c : Dev nD) (t : Fin cfg0.N) :
    (dats m 0 c).flushed 24 t = ((cfg0.win 24).blk t).view.read (Elt Ideal) (projArr m c) := by
  have h : (dats m 0 c).flushed 24 t = (loads m c t).projOut := (left24 m c t).trans (proj_block m c t)
  rw [h]
  funext j
  show _ = projArr m c (((cfg0.win 24).blk t).view.emb j)
  rw [emb24]
  exact congrArg (loads m c t).projOut (ix3_eta j).symm

theorem flush_all : ∀ t : Fin cfg0.N, (cfg0.win 24).flush t = true ∧ (cfg0.win 25).flush t = true ∧ (cfg0.win 26).flush t = true :=
  (by decide +kernel : ∀ t : Fin grid0.N, _)

theorem covered26 (i : S64x4x3.Idx) : ∃ t : Fin cfg0.N, (cfg0.win 26).flush t = true ∧ i ∈ ((cfg0.win 26).blk t).view.set :=
  ⟨point (i 0), (flush_all _).2.2, by
    have h := ((cfg0.win 26).blk (point (i 0))).view.emb_mem_set (ix3 (0 : Fin 1) (i 1) (i 2))
    rw [emb26] at h
    have e : (ix3 (entry (point (i 0))) (i 1) (i 2) : S64x4x3.Idx) = i := index_eta i
    exact (congrArg (· ∈ ((cfg0.win 26).blk (point (i 0))).view.set) e).mp h⟩

theorem covered25 (i : S64x64x3.Idx) : ∃ t : Fin cfg0.N, (cfg0.win 25).flush t = true ∧ i ∈ ((cfg0.win 25).blk t).view.set :=
  ⟨point (i 0), (flush_all _).2.1, by
    have h := ((cfg0.win 25).blk (point (i 0))).view.emb_mem_set (ix3 (0 : Fin 1) (i 1) (i 2))
    rw [emb25] at h
    have e : (ix3 (entry (point (i 0))) (i 1) (i 2) : S64x64x3.Idx) = i := index_eta i
    exact (congrArg (· ∈ ((cfg0.win 25).blk (point (i 0))).view.set) e).mp h⟩

theorem covered24 (i : S64x64x3.Idx) : ∃ t : Fin cfg0.N, (cfg0.win 24).flush t = true ∧ i ∈ ((cfg0.win 24).blk t).view.set :=
  ⟨point (i 0), (flush_all _).1, by
    have h := ((cfg0.win 24).blk (point (i 0))).view.emb_mem_set (ix3 (0 : Fin 1) (i 1) (i 2))
    rw [emb24] at h
    have e : (ix3 (entry (point (i 0))) (i 1) (i 2) : S64x64x3.Idx) = i := index_eta i
    exact (congrArg (· ∈ ((cfg0.win 24).blk (point (i 0))).view.set) e).mp h⟩

theorem final26 (c : Dev nD) : (dats m 0 c).arrAt 26 cfg0.N = seedsArr m c :=
  (dats m 0 c).arrAt_eq_of_cover 26 (seedsArr m c) (fun t _ => flushed26 m c t) covered26
theorem final25 (c : Dev nD) : (dats m 0 c).arrAt 25 cfg0.N = simpArr m c :=
  (dats m 0 c).arrAt_eq_of_cover 25 (simpArr m c) (fun t _ => flushed25 m c t) covered25
theorem final24 (c : Dev nD) : (dats m 0 c).arrAt 24 cfg0.N = projArr m c :=
  (dats m 0 c).arrAt_eq_of_cover 24 (projArr m c) (fun t _ => flushed24 m c t) covered24

/-- The run ends with the three arrays, and with the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_call0_v33_0) = projArr m c
      ∧ r.2.mem ((c.tc : Thread nD τ).loc main_v0_0) = simpArr m c
      ∧ r.2.mem ((c.tc : Thread nD τ).loc main_v0_1) = seedsArr m c) :=
  (θ_run defs _ _).mono (fun r h c => ⟨((h c).1 24).trans (final24 m c), ((h c).1 25).trans (final25 m c), ((h c).1 26).trans (final26 m c)⟩)
    (runArrays m ρ)

end Cert.Proof.Arrays

end
-- ==== Proof.Top.lean ====
/- The order of positions by value: the largest first, equal values in the order of their positions. -/
module

public import proofs.«01_k».proof.Proof.Spec
public import Idealize.ShloMosaic.Lib.SortFacts

@[expose] public section

noncomputable section

namespace Cert.Proof.Spec

open Idealize.ShloMosaic

theorem larger_eq {n : ℕ} (f : Fin n → EReal) (a b : Fin n) : larger f a b = decide (f b < f a) := by
  unfold larger
  by_cases h : f b < f a
  · simp [FloatOps.cmpfTotal, Ideal.cmpTotal, Ideal.cmp, CmpDirection.ordered, h]
  · simp [FloatOps.cmpfTotal, Ideal.cmpTotal, Ideal.cmp, CmpDirection.ordered, h]

theorem top_injective {n : ℕ} (f : Fin n → EReal) : Function.Injective (top f) := sortedFrom_injective _
theorem top_surjective {n : ℕ} (f : Fin n → EReal) : Function.Surjective (top f) := sortedFrom_surjective _

/-- Later positions of the order hold values that are not larger. -/
theorem top_sorted {n : ℕ} (f : Fin n → EReal) {i j : Fin n} (h : i ≤ j) : f (top f j) ≤ f (top f i) := by
  rcases h.eq_or_lt with rfl | h
  · exact le_rfl
  have := sortedFrom_noInversion (larger f) (larger f)
    (fun a b h => by rw [larger_eq] at *; simp only [decide_eq_true_eq, decide_eq_false_iff_not, not_lt] at *; exact h.le)
    (fun a b h => h)
    (fun a b c h h' => by rw [larger_eq] at *; simp only [decide_eq_false_iff_not, not_lt] at *; exact h.trans h') i j h
  rw [larger_eq, decide_eq_false_iff_not, not_lt] at this
  exact this

/-- The first of a list that is in increasing order which holds the list's largest value heads the sorted list. -/
theorem head_stableSort {n : ℕ} (f : Fin n → EReal) : ∀ l : List (Fin n), l.Pairwise (· < ·) → l ≠ [] →
    ∃ a r, stableSort (larger f) l = a :: r ∧ a ∈ l ∧ ∀ b ∈ l, f b ≤ f a ∧ (f b = f a → a ≤ b)
  | [], _, h => absurd rfl h
  | [a], _, _ => ⟨a, [], rfl, by simp, by simp⟩
  | a :: b :: l, hl, _ => by
    obtain ⟨c, r, he, hc, hm⟩ := head_stableSort f (b :: l) (List.Pairwise.of_cons hl) (by simp)
    have hac : ∀ d ∈ b :: l, a < d := fun d hd => List.rel_of_pairwise_cons hl hd
    have hins : stableSort (larger f) (a :: b :: l) = insertBefore (larger f) a (stableSort (larger f) (b :: l)) := rfl
    rw [hins, he]
    unfold insertBefore
    by_cases hlt : f a < f c
    · rw [if_pos (by rw [larger_eq]; simpa using hlt)]
      refine ⟨c, _, rfl, List.mem_cons_of_mem _ hc, fun d hd => ?_⟩
      rcases List.mem_cons.mp hd with rfl | hd
      · exact ⟨hlt.le, fun h => absurd h hlt.ne⟩
      · exact hm d hd
    · rw [if_neg (by rw [larger_eq]; simpa using hlt)]
      refine ⟨a, _, rfl, List.mem_cons_self, fun d hd => ?_⟩
      rcases List.mem_cons.mp hd with rfl | hd
      · exact ⟨le_rfl, fun _ => le_rfl⟩
      · exact ⟨(hm d hd).1.trans (not_lt.mp hlt), fun _ => (hac d hd).le⟩

theorem firstMax_spec (f : Fin 2048 → EReal) (n : Fin 2048) :
    f n ≤ f (firstMax f) ∧ (f n = f (firstMax f) → firstMax f ≤ n) := by
  obtain ⟨a, r, he, _, hm⟩ := head_stableSort f (List.finRange 2048) (List.pairwise_lt_finRange 2048) (by
    intro h; have := congrArg List.length h; simp at this)
  have : firstMax f = a := by
    unfold firstMax top sortedFrom
    have : ∀ (l : List (Fin 2048)) (h : 0 < l.length), l = a :: r → l.get ⟨0, h⟩ = a := by
      intro l h e; subst e; rfl
    exact this _ _ he
  rw [this]
  exact hm n (List.mem_finRange n)

/-- A point that is not among the first `k + 1` holds a value that is not larger than the last of them. -/
theorem top_rest {n : ℕ} (f : Fin n → EReal) (k : Fin n) (a : Fin n) (h : ∀ i ≤ k, top f i ≠ a) : f a ≤ f (top f k) := by
  obtain ⟨j, rfl⟩ := top_surjective f a
  refine top_sorted f (le_of_not_gt fun hj => h j hj.le rfl)

end Cert.Proof.Spec

end
-- ==== Proof.OneHot.lean ====
/- A one-hot row: the first position of the largest value, found by a maximum and a minimum. -/
module

public import proofs.«01_k».proof.Proof.Top
public import Idealize.ShloMosaic.Lib.SortNet.Extract

@[expose] public section

noncomputable section

namespace Cert.Proof.Spec

open Idealize.ShloMosaic

/-- The word of a truth value, made a float. -/
theorem sitofp_flag (p : Prop) [Decidable p] (w : BitVec 1) (h : w = if p then 1#1 else 0#1) :
    (FloatOps.sitofp (F := Ideal) .f32 (BitVec.setWidth 32 w) : EReal) = if p then 1 else 0 := by
  subst h
  split <;> simp [FloatOps.sitofp]

theorem cmpi_eq_flag (a b : Fin 2048) :
    IntOp.cmpi .eq (BitVec.ofNat 32 a.val) (BitVec.ofNat 32 b.val) = if a = b then 1#1 else 0#1 := by
  have : BitVec.ofNat 32 a.val = BitVec.ofNat 32 b.val ↔ a = b := by
    refine ⟨fun h => Fin.ext ?_, fun h => h ▸ rfl⟩
    have := congrArg BitVec.toNat h
    simp only [BitVec.toNat_ofNat] at this
    omega
  simp only [IntOp.cmpi]
  by_cases h : a = b
  · simp [h]
  · have := mt this.1 h
    rw [if_neg h, beq_eq_false_iff_ne.mpr this]; rfl

theorem fold_max_eq {ι : Type} [Fintype ι] (f : ι → EReal) (a : ι) (h : ∀ n, f n ≤ f a) :
    Finset.univ.fold max (Ideal.ofBits .f32 4286578688#32) f = f a := by
  have h0 : Ideal.ofBits .f32 4286578688#32 = ⊥ := by
    simp [Ideal.ofBits, Ideal.ieee]
  rw [h0]
  refine le_antisymm ((Finset.fold_max_le _).2 ⟨bot_le, fun n _ => h n⟩) ((Finset.le_fold_max _).2 (Or.inr ⟨a, Finset.mem_univ _, le_rfl⟩))

theorem fold_min_eq {ι : Type} [Fintype ι] (f : ι → EReal) (a : ι) (h : ∀ n, f a ≤ f n) :
    Finset.univ.fold min (Ideal.ofBits .f32 2139095040#32) f = f a := by
  have h0 : Ideal.ofBits .f32 2139095040#32 = ⊤ := by
    simp [Ideal.ofBits, Ideal.ieee]
  rw [h0]
  refine le_antisymm ((Finset.fold_min_le _).2 (Or.inr ⟨a, Finset.mem_univ _, le_rfl⟩)) ((Finset.le_fold_min _).2 ⟨le_top, fun n _ => h n⟩)

/-- The least of the positions a test selects is the first of them. -/
theorem fold_minsi_first (p : Fin 2048 → Prop) [DecidablePred p] (a : Fin 2048) (ha : p a) (hm : ∀ n, p n → a ≤ n) :
    Finset.univ.fold IntOp.minsi 2147483647#32 (fun n : Fin 2048 => if p n then BitVec.ofNat 32 n.val else 2048#32)
      = BitVec.ofNat 32 a.val := by
  have hti : ∀ n : ℕ, n ≤ 2048 → (BitVec.ofNat 32 n).toInt = (n : ℤ) := by
    intro n hn
    rw [BitVec.toInt_eq_toNat_cond, BitVec.toNat_ofNat, Nat.mod_eq_of_lt (by omega), if_pos (by omega)]
  refine BitVec.eq_of_toInt_eq ?_
  have hh := Finset.fold_hom (op := IntOp.minsi) (op' := (min : ℤ → ℤ → ℤ)) (s := (Finset.univ : Finset (Fin 2048)))
    (b := 2147483647#32) (f := fun n : Fin 2048 => if p n then BitVec.ofNat 32 n.val else 2048#32)
    (m := BitVec.toInt) (fun x y => SortNet.toInt_minsi x y)
  rw [← hh, hti a.val (by omega)]
  refine le_antisymm ((Finset.fold_min_le _).2 (Or.inr ⟨a, Finset.mem_univ _, ?_⟩))
    ((Finset.le_fold_min _).2 ⟨?_, fun n _ => ?_⟩)
  · rw [if_pos ha, hti a.val (by omega)]
  · have := a.isLt
    have e : (2147483647#32 : BitVec 32).toInt = 2147483647 := by decide
    rw [e]; omega
  · split
    · next h => rw [hti n.val (by omega)]; exact_mod_cast hm n h
    · rw [show (2048#32 : BitVec 32) = BitVec.ofNat 32 2048 from rfl, hti 2048 le_rfl]; have := a.isLt; omega

/-- The kernel's one-hot row for the first position of the largest value. -/
theorem onehot_first (f : Fin 2048 → EReal) (n : Fin 2048) :
    (FloatOps.sitofp (F := Ideal) .f32 (BitVec.setWidth 32 (IntOp.cmpi .eq (BitVec.ofNat 32 n.val)
      (Finset.univ.fold IntOp.minsi 2147483647#32 fun x : Fin 2048 =>
        if Finset.univ.fold max (Ideal.ofBits .f32 4286578688#32) f ≤ f x then BitVec.ofNat 32 x.val else 2048#32))) : EReal)
      = if n = firstMax f then 1 else 0 := by
  rw [fold_max_eq f (firstMax f) (fun n => (firstMax_spec f n).1),
    fold_minsi_first (fun x => f (firstMax f) ≤ f x) (firstMax f) le_rfl
      (fun x hx => (firstMax_spec f x).2 (le_antisymm (firstMax_spec f x).1 hx))]
  exact sitofp_flag _ _ (cmpi_eq_flag _ _)

/-- A sum against a one-hot row picks one entry, an infinite one too. -/
theorem sum_onehot (g : Fin 2048 → EReal) (a : Fin 2048) : ∑ n, g n * (if n = a then 1 else 0) = g a := by
  simp

end Cert.Proof.Spec

end
-- ==== Proof.KernelSeeds.lean ====
/- The four seeds, from one cloud's coordinate rows. -/
module

public import proofs.«01_k».proof.Proof.Spec
public import proofs.«01_k».proof.Proof.OneHot
public import proofs.«01_k».proof.Proof.Gen.KernelIdeal.Skeleton

@[expose] public section

noncomputable section

namespace Cert.Proof.KernelSeeds

open Idealize.ShloMosaic Cert.KernelIdeal Cert.KernelIdeal.Gen Cert.Proof.Spec

/-- A row of `S1x2048` holds the values `f`. -/
def Row (v : FVec Ideal S1x2048 .f32) (f : Fin 2048 → EReal) : Prop := ∀ n, v (ix2 (0 : Fin 1) n) = f n

/-- The positions' row. -/
def Pos (v : IVec S1x2048 32) : Prop := ∀ n : Fin 2048, v (ix2 (0 : Fin 1) n) = BitVec.ofNat 32 n.val

theorem pos_iota : Pos (iota .tc S1x2048 32 [1] iota_S1x2048_d1_w32) := by
  intro n
  pointwise

theorem first_onehot : Row (k0_pay30 (F := Ideal)) fun n => if n = 0 then 1 else 0 := by
  intro n
  pointwise [k0_pay30]
  exact sitofp_flag _ _ (cmpi_eq_flag n 0)

variable {P : Cloud} {x y z v54 v61 v88 v109 : FVec Ideal S1x2048 .f32} {v50 : IVec S1x2048 32} {lx ly : FVec Ideal S1x1 .f32}
  {v113 : IVec S1x2048 1}

theorem run1_at (hx : Row x (P · 0)) (hy : Row y (P · 1)) (hz : Row z (P · 2)) (hlx : lx (ix2 0 0) = P 0 0) (hly : ly (ix2 0 0) = P 0 1)
    (h61 : Row v61 fun n => P n 2 * (if n = 0 then 1 else 0)) : Row (k0_pay34 x y z lx ly v61) (run1 P) := by
  intro n
  pointwise [k0_pay34]
  simp only [hx n, hy n, hz n, hlx, hly, h61 _, sum_onehot]
  simp [run1, dist2, Fin.sum_univ_three, start]

theorem onehot1_at (h : Row (k0_pay34 x y z lx ly v61) (run1 P)) (hp : Pos v50) :
    Row (k0_pay35 x y z v50 lx ly v61) fun n => if n = idx1 P then 1 else 0 := by
  intro n
  pointwise [k0_pay35]
  simp only [h _, hp _]
  exact onehot_first _ n

theorem run2_at (hx : Row x (P · 0)) (hy : Row y (P · 1)) (hz : Row z (P · 2)) (h : Row (k0_pay34 x y z lx ly v61) (run1 P))
    (h' : Row (k0_pay35 x y z v50 lx ly v61) fun n => if n = idx1 P then 1 else 0) :
    Row (k0_pay36 x y z v50 lx ly v61) (run2 P) := by
  intro n
  pointwise [k0_pay36]
  simp only [h _, h' _, hx _, hy _, hz _, sum_onehot]
  simp [run2, dist2, Fin.sum_univ_three]

/-- The compare that marks the positions of the greatest value of `run2`. -/
def Flag2 (P : Cloud) (v : IVec S1x2048 1) : Prop := ∀ n : Fin 2048, v (ix2 (0 : Fin 1) n)
  = BitVec.ofBool (decide (Finset.fold max (Ideal.ofBits .f32 4286578688#32) (fun x => run2 P x) Finset.univ ≤ run2 P n))

theorem flag2_at (h : Row (k0_pay36 x y z v50 lx ly v61) (run2 P)) : Flag2 P (k0_pay37 x y z v50 lx ly v61) := by
  intro n
  pointwise [k0_pay37]
  simp only [h _]

theorem onehot2 (hf : Flag2 P v113) (n : Fin 2048) : (FloatOps.sitofp (F := Ideal) .f32 (BitVec.setWidth 32 (IntOp.cmpi .eq (BitVec.ofNat 32 n.val)
    (Finset.univ.fold IntOp.minsi 2147483647#32 fun k : Fin 2048 => Scalar.select (v113 (ix2 0 k)) (BitVec.ofNat 32 k.val) 2048#32))) : EReal)
      = if n = idx2 P then 1 else 0 := by
  refine Eq.trans ?_ (onehot_first (run2 P) n)
  congr 4
  funext k
  rw [hf k]
  by_cases hk : Finset.univ.fold max (Ideal.ofBits .f32 4286578688#32) (fun x => run2 P x) ≤ run2 P k <;> simp [hk, Scalar.select]

/-- The stack of the four one-hot rows. -/
theorem stack_at (hx : Row x (P · 0)) (hy : Row y (P · 1)) (hz : Row z (P · 2)) (hp : Pos v50)
    (h54 : Row v54 fun n => if n = 0 then 1 else 0) (h88 : Row v88 fun n => if n = idx1 P then 1 else 0)
    (h109 : Row v109 (run2 P)) (h113 : Flag2 P v113) (p : Fin 4) (n : Fin 2048) :
    k0_pay38 x y z v50 v54 v88 v109 v113 (ix2 p n) = if n = seed P p then 1 else 0 := by
  pointwise [k0_pay38]
  have h3 : ∀ k, min (run2 P k) ((P k 0 - P (idx2 P) 0) * (P k 0 - P (idx2 P) 0) + (P k 1 - P (idx2 P) 1) * (P k 1 - P (idx2 P) 1)
      + (P k 2 - P (idx2 P) 2) * (P k 2 - P (idx2 P) 2)) = run3 P k := by
    intro k
    simp [run3, dist2, Fin.sum_univ_three]
  have e0 : seed P 0 = 0 := by simp [seed]
  have e1 : seed P 1 = idx1 P := by simp [seed]
  have e2 : seed P 2 = idx2 P := by simp [seed]
  have e3 : seed P 3 = idx3 P := by simp [seed]
  by_cases a : p.val < 1
  · rw [dif_pos a]
    obtain rfl : p = 0 := by omega
    rw [e0]
    exact h54 n
  rw [dif_neg a]
  by_cases b : p.val - 1 < 1
  · rw [dif_pos b]
    obtain rfl : p = 1 := by omega
    rw [e1]
    exact h88 n
  rw [dif_neg b]
  by_cases c : p.val - 1 - 1 < 1
  · rw [dif_pos c]
    obtain rfl : p = 2 := by omega
    rw [e2, ← onehot2 h113 n]
    simp only [← hp _]
    rfl
  · rw [dif_neg c]
    obtain rfl : p = 3 := by omega
    rw [e3, Subsingleton.elim (⟨(3 : Fin 4).val - 1 - 1 - 1, _⟩ : Fin 1) 0]
    simp only [hp _, onehot2 h113, h109 _, hx _, hy _, hz _, sum_onehot, h3]
    exact onehot_first (run3 P) n

theorem sumx_at (hx : Row x (P · 0)) (h : ∀ p n, k0_pay38 x y z v50 v54 v88 v109 v113 (ix2 p n) = if n = seed P p then 1 else 0)
    (p : Fin 4) : k0_pay39 x y z v50 v54 v88 v109 v113 (ix2 p 0) = P (seed P p) 0 := by
  pointwise [k0_pay39]
  simp only [h _ _, hx _]
  simp

theorem sumy_at (hy : Row y (P · 1)) (h : ∀ p n, k0_pay38 x y z v50 v54 v88 v109 v113 (ix2 p n) = if n = seed P p then 1 else 0)
    (p : Fin 4) : k0_pay40 x y z v50 v54 v88 v109 v113 (ix2 p 0) = P (seed P p) 1 := by
  pointwise [k0_pay40]
  simp only [h _ _, hy _]
  simp

variable {v155 : FVec Ideal S4x2048 .f32} {v159 v163 : FVec Ideal S4x1 .f32}

theorem sumz_at (hz : Row z (P · 2)) (h : ∀ p n, v155 (ix2 p n) = if n = seed P p then 1 else 0) (p : Fin 4) :
    k0_pay41 z v155 (ix2 p 0) = P (seed P p) 2 := by
  pointwise [k0_pay41]
  simp only [h _ _, hz _]
  simp

/-- What the seeds' result is given. -/
theorem seeds_at (h159 : ∀ p, v159 (ix2 p 0) = P (seed P p) 0) (h163 : ∀ p, v163 (ix2 p 0) = P (seed P p) 1)
    (h167 : ∀ p, k0_pay41 z v155 (ix2 p 0) = P (seed P p) 2) (p : Fin 4) (c : Fin 3) :
    k0_pay42 z v155 v159 v163 (ix3 0 p c) = P (seed P p) c := by
  pointwise [k0_pay42]
  fin_cases c
  · exact h159 p
  · exact h163 p
  · exact h167 p

/-- The squared distances to the seeds. -/
theorem d2_at (hx : Row x (P · 0)) (hy : Row y (P · 1)) (hz : Row z (P · 2)) (h159 : ∀ p, v159 (ix2 p 0) = P (seed P p) 0)
    (h163 : ∀ p, v163 (ix2 p 0) = P (seed P p) 1)
    (h167 : ∀ p, k0_pay41 z v155 (ix2 p 0) = P (seed P p) 2) (p : Fin 4) (n : Fin 2048) :
    k0_pay43 x y z v155 v159 v163 (ix2 p n) = d2 P p n := by
  pointwise [k0_pay43]
  simp only [h159, h163, h167, hx _, hy _, hz _]
  simp [d2, dist2, Fin.sum_univ_three]

end Cert.Proof.KernelSeeds

end
-- ==== Proof.Rows.lean ====
/- The body's first values, from the rows of the cloud it loads. -/
module

public import proofs.«01_k».proof.Proof.KernelSeeds
public import proofs.«01_k».proof.Proof.Body

@[expose] public section

noncomputable section

namespace Cert.Proof.Rows

open Idealize.ShloMosaic Cert.KernelIdeal Cert.KernelIdeal.Gen Cert.Proof.Spec Cert.Proof.Body Cert.Proof.KernelSeeds

/-- The loads hold the cloud `P`. -/
structure Holds (L : Loads) (P : Cloud) : Prop where
  x : ∀ n, L.x (ix3 (0 : Fin 1) (0 : Fin 1) n) = P n 0
  y : ∀ n, L.y (ix3 (0 : Fin 1) (0 : Fin 1) n) = P n 1
  z : ∀ n, L.z (ix3 (0 : Fin 1) (0 : Fin 1) n) = P n 2

variable {L : Loads} {P : Cloud} (h : Holds L P)
include h

theorem X_at : Row L.X (P · 0) := by
  intro n
  show k0_pay27 (F := Ideal) L.x _ = _
  pointwise [k0_pay27]
  exact h.x n

theorem Y_at : Row L.Y (P · 1) := by
  intro n
  show k0_pay28 (F := Ideal) L.y _ = _
  pointwise [k0_pay28]
  exact h.y n

theorem Z_at : Row L.Z (P · 2) := by
  intro n
  show k0_pay29 (F := Ideal) L.z _ = _
  pointwise [k0_pay29]
  exact h.z n

theorem lx_at : L.lx (ix2 (0 : Fin 1) (0 : Fin 1)) = P 0 0 := by
  show k0_pay31 (F := Ideal) L.x _ = _
  unfold k0_pay31
  pointwise
  simp only [first_onehot _, show ∀ n, k0_pay27 (F := Ideal) L.x (ix2 (0 : Fin 1) n) = P n 0 from X_at h]
  exact sum_onehot (P · 0) 0

theorem ly_at : L.ly (ix2 (0 : Fin 1) (0 : Fin 1)) = P 0 1 := by
  show k0_pay32 (F := Ideal) L.y _ = _
  unfold k0_pay32
  pointwise
  simp only [first_onehot _, show ∀ n, k0_pay28 (F := Ideal) L.y (ix2 (0 : Fin 1) n) = P n 1 from Y_at h]
  exact sum_onehot (P · 1) 0

theorem zo_at : Row L.zo fun n => P n 2 * (if n = 0 then 1 else 0) := by
  intro n
  show k0_pay33 (F := Ideal) L.z _ = _
  unfold k0_pay33
  pointwise
  rw [first_onehot, show k0_pay29 (F := Ideal) L.z (ix2 (0 : Fin 1) n) = P n 2 from Z_at h n]

theorem one1_at : Row L.one1 fun n => if n = idx1 P then 1 else 0 :=
  onehot1_at (run1_at (X_at h) (Y_at h) (Z_at h) (lx_at h) (ly_at h) (zo_at h)) pos_iota

theorem min2_at : Row L.min2 (run2 P) :=
  run2_at (X_at h) (Y_at h) (Z_at h) (run1_at (X_at h) (Y_at h) (Z_at h) (lx_at h) (ly_at h) (zo_at h)) (one1_at h)

theorem stack_at (p : Fin 4) (n : Fin 2048) : L.stack (ix2 p n) = if n = seed P p then 1 else 0 :=
  KernelSeeds.stack_at (X_at h) (Y_at h) (Z_at h) pos_iota first_onehot (one1_at h) (min2_at h) (flag2_at (min2_at h)) p n

theorem sx_at (p : Fin 4) : L.sx (ix2 p 0) = P (seed P p) 0 := sumx_at (X_at h) (stack_at h) p
theorem sy_at (p : Fin 4) : L.sy (ix2 p 0) = P (seed P p) 1 := sumy_at (Y_at h) (stack_at h) p
theorem sz_at (p : Fin 4) : k0_pay41 L.Z L.stack (ix2 p 0) = P (seed P p) 2 := sumz_at (Z_at h) (stack_at h) p

theorem seedsOut_at (p : Fin 4) (k : Fin 3) : L.seedsOut (ix3 (0 : Fin 1) p k) = P (seed P p) k :=
  seeds_at (sx_at h) (sy_at h) (sz_at h) p k

theorem dd_at (p : Fin 4) (n : Fin 2048) : L.dd (ix2 p n) = d2 P p n :=
  d2_at (X_at h) (Y_at h) (Z_at h) (sx_at h) (sy_at h) (sz_at h) p n

end Cert.Proof.Rows

end
-- ==== Proof.Entries.lean ====
/- The loads at a grid point hold that batch entry's cloud. -/
module

public import proofs.«01_k».proof.Proof.Arrays
public import proofs.«01_k».proof.Proof.Rows

@[expose] public section

noncomputable section

namespace Cert.Proof.Entries

open Cert.KernelIdeal Cert.KernelIdeal.Gen Idealize.ShloMosaic Idealize.ShloMosaic.TcCoe Idealize.SL.Sem Cert.Proof.IdealRun Cert.Proof.Body Cert.Proof.Blocks Cert.Proof.Arrays Cert.Proof.Rows Cert.Proof.Spec

variable (m : (ℓ : Loc nD τ sig) → Buf (Elt Ideal) ℓ) (c : Dev nD)

/-- A batch entry's cloud. -/
def cloudOf (b : Fin 64) : Cloud := fun n k => m ((c : Thread nD τ).loc main_arg0) (ix3 b k n)

theorem shifted (k : Fin 3) (n : Fin 2048) (f : S1x3x2048.Idx → EReal) (i : S1x3x2048.Idx) (h0 : (i 0).val = 0) (h1 : (i 1).val = k.val) (h2 : (i 2).val = n.val) :
    f i = f (ix3 (0 : Fin 1) k n) := by
  congr 1
  funext a; apply Fin.ext
  match a with
  | ⟨0, _⟩ => exact h0
  | ⟨1, _⟩ => exact h1
  | ⟨2, _⟩ => exact h2

theorem holds (t : Fin cfg0.N) : Holds (loads m c t) (cloudOf m c (entry t)) where
  x n := (shifted 0 n (iblk m c 0 t) _ rfl rfl (show 0 + 1 * n.val = n.val by omega)).trans (cloud_block m c t 0 n)
  y n := (shifted 1 n (iblk m c 0 t) _ rfl rfl (show 0 + 1 * n.val = n.val by omega)).trans (cloud_block m c t 1 n)
  z n := (shifted 2 n (iblk m c 0 t) _ rfl rfl (show 0 + 1 * n.val = n.val by omega)).trans (cloud_block m c t 2 n)

theorem entry_point (b : Fin 64) : entry (point b) = b := rfl

theorem seedsArr_at (i : S64x4x3.Idx) : seedsArr m c i = cloudOf m c (i 0) (seed (cloudOf m c (i 0)) (i 1)) (i 2) :=
  seedsOut_at (holds m c (point (i 0))) (i 1) (i 2)

end Cert.Proof.Entries

end
-- ==== Proof.Search.lean ====
/- A threshold search: a bracket of the least threshold that at least 256 entries do not exceed. -/
module

public import proofs.«01_k».proof.Proof.Top
public import proofs.«01_k».proof.Proof.OneHot

@[expose] public section

noncomputable section

namespace Cert.Proof.Search

open Idealize.ShloMosaic Cert.Proof.Spec

/-- How many entries do not exceed `t`. -/
def count {n : ℕ} (f : Fin n → EReal) (t : EReal) : ℕ := (Finset.univ.filter fun i => f i ≤ t).card

theorem sum_flags {n : ℕ} (f : Fin n → EReal) (t : EReal) :
    ∑ i, (FloatOps.sitofp (F := Ideal) .f32 (BitVec.setWidth 32 (BitVec.ofBool (decide (f i ≤ t)))) : EReal) = (count f t : EReal) := by
  have h : ∀ i, (FloatOps.sitofp (F := Ideal) .f32 (BitVec.setWidth 32 (BitVec.ofBool (decide (f i ≤ t)))) : EReal) = if f i ≤ t then 1 else 0 := fun i =>
    sitofp_flag _ _ (by by_cases a : f i ≤ t <;> simp [a])
  simp only [h, count, Finset.sum_boole]

/-- The entry of rank `k` from below. -/
def kth {n : ℕ} (f : Fin n → EReal) (k : Fin n) : EReal := f (top (fun i => -f i) k)

theorem le_kth {n : ℕ} (f : Fin n → EReal) {i k : Fin n} (h : i ≤ k) : f (top (fun i => -f i) i) ≤ kth f k :=
  EReal.neg_le_neg_iff.mp (top_sorted (fun i => -f i) h)

theorem kth_le {n : ℕ} (f : Fin n → EReal) (k a : Fin n) (h : ∀ i ≤ k, top (fun i => -f i) i ≠ a) : kth f k ≤ f a :=
  EReal.neg_le_neg_iff.mp (top_rest (fun i => -f i) k a h)

/-- The first `k+1` entries of the order. -/
def firsts {n : ℕ} (f : Fin n → EReal) (k : Fin n) : Finset (Fin n) := (Finset.Iic k).image (top fun i => -f i)

theorem card_firsts {n : ℕ} (f : Fin n → EReal) (k : Fin n) : (firsts f k).card = k.val + 1 := by
  rw [firsts, Finset.card_image_of_injective _ (top_injective _)]
  simp

theorem firsts_le {n : ℕ} (f : Fin n → EReal) (k i : Fin n) (h : i ∈ firsts f k) : f i ≤ kth f k := by
  obtain ⟨j, hj, rfl⟩ := Finset.mem_image.mp h
  exact le_kth f (Finset.mem_Iic.mp hj)

/-- At least `k+1` entries do not exceed `t` exactly when the entry of rank `k` does not. -/
theorem count_iff {n : ℕ} (f : Fin n → EReal) (k : Fin n) (t : EReal) : k.val + 1 ≤ count f t ↔ kth f k ≤ t := by
  constructor
  · intro h
    by_contra hlt
    rw [not_le] at hlt
    have hsub : (Finset.univ.filter fun i => f i ≤ t) ⊆ (firsts f k).erase (top (fun i => -f i) k) := by
      intro a ha
      have ha' : f a ≤ t := (Finset.mem_filter.mp ha).2
      rw [Finset.mem_erase]
      refine ⟨fun e => absurd (hlt.trans_le (show kth f k ≤ t from by rw [kth, ← e]; exact ha')) (lt_irrefl _), ?_⟩
      by_contra hn
      refine absurd ((kth_le f k a fun i hi e => hn ?_).trans ha') (not_le.mpr hlt)
      exact Finset.mem_image.mpr ⟨i, Finset.mem_Iic.mpr hi, e⟩
    have := Finset.card_le_card hsub
    have hk : top (fun i => -f i) k ∈ firsts f k := Finset.mem_image.mpr ⟨k, Finset.mem_Iic.mpr le_rfl, rfl⟩
    rw [Finset.card_erase_of_mem hk, card_firsts] at this
    unfold count at h
    omega
  · intro h
    rw [← card_firsts f k]
    exact Finset.card_le_card fun i hi => Finset.mem_filter.mpr ⟨Finset.mem_univ _, (firsts_le f k i hi).trans h⟩

/-- A bracket of the entry of rank `k`, at most `w` wide. -/
structure Bracket {n : ℕ} (f : Fin n → EReal) (k : Fin n) (w : ℝ) (lo hi : EReal) : Prop where
  low : lo ≤ kth f k
  high : kth f k ≤ hi
  wide : ∃ l h : ℝ, lo = l ∧ hi = h ∧ h - l ≤ w

theorem sixteenth : Ideal.ofBits .f32 1031798784#32 = ((1 / 16 : ℝ) : EReal) := by
  simp [Ideal.ofBits, Ideal.ieee]; rw [← EReal.coe_mul]; norm_num
theorem half : Ideal.ofBits .f32 1056964608#32 = ((1 / 2 : ℝ) : EReal) := by
  simp [Ideal.ofBits, Ideal.ieee]; rw [← EReal.coe_mul]; norm_num
theorem count256 : Ideal.ofBits .f32 1132462080#32 = ((256 : ℕ) : EReal) := by
  rw [← EReal.coe_natCast]
  simp [Ideal.ofBits, Ideal.ieee]; rw [← EReal.coe_mul]; norm_num
theorem bottom : Ideal.ofBits .f32 4286578688#32 = ⊥ := by simp [Ideal.ofBits, Ideal.ieee]
theorem topmost : Ideal.ofBits .f32 2139095040#32 = ⊤ := by simp [Ideal.ofBits, Ideal.ieee]

/-- The step number as a float. -/
theorem step_number (j : Fin 15) : (FloatOps.sitofp (F := Ideal) .f32 (IntOp.addi (BitVec.ofNat 32 j.val) 1#32) : EReal) = (((j.val + 1 : ℕ) : ℝ) : EReal) := by
  have : IntOp.addi (BitVec.ofNat 32 j.val) 1#32 = BitVec.ofNat 32 (j.val + 1) := by
    show BitVec.ofNat 32 j.val + 1#32 = _
    rw [BitVec.ofNat_add]
  rw [this]
  show (((BitVec.ofNat 32 (j.val + 1)).toInt : ℝ) : EReal) = _
  rw [BitVec.toInt_eq_toNat_cond, BitVec.toNat_ofNat, Nat.mod_eq_of_lt (by omega), if_pos (by omega)]
  simp

/-- One step of the sixteen-way search. -/
theorem Bracket.sixteen {n : ℕ} {f : Fin n → EReal} {k : Fin n} {w : ℝ} {lo hi : EReal} (b : Bracket f k w lo hi) (t : Fin 15 → EReal)
    (ht : ∀ j, t j = lo + (hi - lo) * ((1 / 16 : ℝ) : EReal) * (((j.val + 1 : ℕ) : ℝ) : EReal)) {lo' hi' : EReal}
    (hlo : lo' = Finset.univ.fold max ⊥ fun j => if count f (t j) < k.val + 1 then t j else lo)
    (hhi : hi' = Finset.univ.fold min ⊤ fun j => if k.val + 1 ≤ count f (t j) then t j else hi) :
    Bracket f k (w / 16) lo' hi' := by
  obtain ⟨l, h, rfl, rfl, hw⟩ := b.wide
  have hlh : l ≤ h := EReal.coe_le_coe_iff.mp (b.low.trans b.high)
  set T : ℕ → ℝ := fun j => l + (h - l) * (1 / 16) * j with hT
  have ht' : ∀ j, t j = (T (j.val + 1) : EReal) := fun j => by
    rw [ht j, hT]; norm_cast
  simp only [ht', count_iff, not_le.symm.trans (Iff.rfl : _ ↔ _)] at hlo hhi
  have hlo2 : lo' = Finset.univ.fold max ⊥ fun j : Fin 15 => if (T (j.val + 1) : EReal) < kth f k then (T (j.val + 1) : EReal) else l := by
    rw [hlo]; congr 1; funext j
    refine if_congr ?_ rfl rfl
    exact not_le
  have cand : ∀ j : Fin 15, (if (T (j.val + 1) : EReal) < kth f k then (T (j.val + 1) : EReal) else l) ≤ lo' := fun j => by
    rw [hlo2]; exact (Finset.le_fold_max _).2 (Or.inr ⟨j, Finset.mem_univ _, le_rfl⟩)
  have cand' : ∀ j : Fin 15, hi' ≤ (if kth f k ≤ (T (j.val + 1) : EReal) then (T (j.val + 1) : EReal) else h) := fun j => by
    rw [hhi]; exact (Finset.fold_min_le _).2 (Or.inr ⟨j, Finset.mem_univ _, le_rfl⟩)
  have low : lo' ≤ kth f k := by
    rw [hlo2]
    refine (Finset.fold_max_le _).2 ⟨bot_le, fun j _ => ?_⟩
    split
    · exact le_of_lt ‹_›
    · exact b.low
  have high : kth f k ≤ hi' := by
    rw [hhi]
    refine (Finset.le_fold_min _).2 ⟨le_top, fun j _ => ?_⟩
    split
    · assumption
    · exact b.high
  -- the step at which the search turns
  have main : ∃ j : ℕ, (T j : EReal) ≤ lo' ∧ hi' ≤ (T (j + 1) : EReal) := by
    have T0 : T 0 = l := by simp [hT]
    have T16 : T 16 = h := by simp only [hT]; push_cast; ring
    have l_le : (l : EReal) ≤ lo' := by
      refine le_trans ?_ (cand 0)
      split
      · rw [← T0]; exact EReal.coe_le_coe_iff.mpr (by simp only [hT]; push_cast; nlinarith)
      · exact le_rfl
    have le_of : ∀ j : ℕ, j < 16 → ((T j : ℝ) : EReal) < kth f k → (T j : EReal) ≤ lo' := by
      intro j hj hc
      rcases j with _ | j
      · rw [T0]; exact l_le
      · have := cand ⟨j, by omega⟩
        simpa only [if_pos hc] using this
    have hi_of : ∀ j : ℕ, j < 16 → kth f k ≤ ((T (j + 1) : ℝ) : EReal) → hi' ≤ (T (j + 1) : EReal) := by
      intro j hj hc
      by_cases e : j = 15
      · subst e
        have := cand' ⟨14, by omega⟩
        rw [show T (15 + 1) = h from T16]
        refine this.trans ?_
        split
        · refine EReal.coe_le_coe_iff.mpr ?_
          rw [← T16]; simp only [hT]; push_cast
          nlinarith
        · exact le_rfl
      · have := cand' ⟨j, by omega⟩
        simpa only [if_pos hc] using this
    have ex : ∃ j : ℕ, kth f k ≤ ((T (j + 1) : ℝ) : EReal) := ⟨15, by rw [show T (15 + 1) = h from T16]; exact b.high⟩
    classical
    refine ⟨Nat.find ex, ?_, hi_of _ ?_ (Nat.find_spec ex)⟩
    · rcases e : Nat.find ex with _ | j
      · rw [T0]; exact l_le
      · have hlt : j < Nat.find ex := by omega
        have := Nat.find_min ex hlt
        have h15 : Nat.find ex ≤ 15 := Nat.find_min' ex (by rw [show T (15 + 1) = h from T16]; exact b.high)
        exact le_of _ (by omega) (not_le.mp this)
    · have h15 : Nat.find ex ≤ 15 := Nat.find_min' ex (by rw [show T (15 + 1) = h from T16]; exact b.high)
      omega
  obtain ⟨j, h1, h2⟩ := main
  have hreal : ∃ l' h' : ℝ, lo' = l' ∧ hi' = h' := by
    have a1 : lo' ≠ ⊥ := fun e => by rw [e] at h1; exact absurd h1 (by simp)
    have a2 : hi' ≠ ⊤ := fun e => by rw [e] at h2; exact absurd h2 (by simp)
    have a3 : lo' ≠ ⊤ := fun e => by rw [e] at low; exact a2 (top_le_iff.mp (low.trans high))
    have a4 : hi' ≠ ⊥ := fun e => by rw [e] at high; exact a1 (le_bot_iff.mp (low.trans high))
    exact ⟨lo'.toReal, hi'.toReal, (EReal.coe_toReal a3 a1).symm, (EReal.coe_toReal a2 a4).symm⟩
  obtain ⟨l', h', e1, e2⟩ := hreal
  refine ⟨low, high, l', h', e1, e2, ?_⟩
  rw [e1] at h1
  rw [e2] at h2
  have r1 := EReal.coe_le_coe_iff.mp h1
  have r2 := EReal.coe_le_coe_iff.mp h2
  simp only [hT] at r1 r2
  push_cast at r2
  nlinarith

/-- One bisection. -/
theorem Bracket.two {n : ℕ} {f : Fin n → EReal} {k : Fin n} {w : ℝ} {lo hi : EReal} (b : Bracket f k w lo hi) {mid lo' hi' : EReal}
    (hm : mid = ((1 / 2 : ℝ) : EReal) * (lo + hi)) (hlo : lo' = if k.val + 1 ≤ count f mid then lo else mid)
    (hhi : hi' = if k.val + 1 ≤ count f mid then mid else hi) : Bracket f k (w / 2) lo' hi' := by
  obtain ⟨l, h, rfl, rfl, hw⟩ := b.wide
  have hm' : mid = ((1 / 2 * (l + h) : ℝ) : EReal) := by rw [hm]; norm_cast
  simp only [count_iff] at hlo hhi
  by_cases c : kth f k ≤ mid
  · rw [if_pos c] at hlo hhi
    exact ⟨hlo ▸ b.low, hhi ▸ c, l, _, hlo, hhi.trans hm', by linarith⟩
  · rw [if_neg c] at hlo hhi
    exact ⟨hlo ▸ (not_le.mp c).le, hhi ▸ b.high, _, h, hlo.trans hm', hhi, by linarith⟩

/-- A narrow bracket's upper end selects the first entries, where no other entry lies close above them. -/
theorem Bracket.selects {n : ℕ} {f : Fin n → EReal} {k : Fin n} {w : ℝ} {lo hi : EReal} (b : Bracket f k w lo hi)
    (h : count f (kth f k + w) = k.val + 1) (i : Fin n) : f i ≤ hi ↔ i ∈ firsts f k := by
  obtain ⟨l, h', rfl, rfl, hw⟩ := b.wide
  have hle : (h' : EReal) ≤ kth f k + w :=
    le_trans (by rw [← EReal.coe_add]; exact EReal.coe_le_coe_iff.mpr (by linarith)) (add_le_add_left b.low (w : EReal))
  have e : firsts f k = Finset.univ.filter fun i => f i ≤ kth f k + w := by
    refine Finset.eq_of_subset_of_card_le (fun i hi => ?_) (by rw [card_firsts]; exact h.le)
    exact Finset.mem_filter.mpr ⟨Finset.mem_univ _, (firsts_le f k i hi).trans (b.high.trans hle)⟩
  constructor
  · intro hi
    rw [e]
    exact Finset.mem_filter.mpr ⟨Finset.mem_univ _, hi.trans hle⟩
  · intro hi
    exact (firsts_le f k i hi).trans b.high

end Cert.Proof.Search

end
-- ==== Proof.KernelSearch.lean ====
/- The body's threshold search selects each patch's 256 nearest points. -/
module

public import proofs.«01_k».proof.Proof.Search
public import proofs.«01_k».proof.Proof.Rows

@[expose] public section

noncomputable section

namespace Cert.Proof.KernelSearch

open Idealize.ShloMosaic Cert.KernelIdeal Cert.KernelIdeal.Gen Cert.Proof.Spec Cert.Proof.Body Cert.Proof.Search Cert.Proof.Rows

/-- A loop whose step divides the width divides it once per trip. -/
theorem narrowed {σ : Type} (B : ℝ → σ → Prop) (g : σ → σ) (c : ℝ) (step : ∀ w s, B w s → B (w / c) (g s)) (n : ℕ) (w : ℝ) (s : σ) (h : B w s) :
    B (w / c ^ n) (Scf.fold (fun (_ : Fin n) u => g u) s) := by
  rw [Scf.fold_eq]
  have main : ∀ (l : List (Fin n)) (w : ℝ) (s : σ), B w s → B (w / c ^ l.length) (l.foldl (fun acc _ => g acc) s) := by
    intro l
    induction l with
    | nil => intro w s h; simpa using h
    | cons a l ih =>
      intro w s h
      have := ih _ _ (step w s h)
      rwa [div_div, ← pow_succ'] at this
  have := main (List.finRange n) w s h
  rwa [List.length_finRange] at this

/-- The rank of the last point of a patch. -/
def last : Fin 2048 := ⟨255, by omega⟩

theorem count_lt (f : Fin 2048 → EReal) (t : EReal) :
    (∑ i, (FloatOps.sitofp (F := Ideal) .f32 (BitVec.setWidth 32 (BitVec.ofBool (decide (f i ≤ t)))) : EReal) < Ideal.ofBits .f32 1132462080#32)
      ↔ count f t < last.val + 1 := by
  rw [sum_flags, count256]
  exact Nat.cast_lt

theorem count_ge (f : Fin 2048 → EReal) (t : EReal) :
    (Ideal.ofBits .f32 1132462080#32 ≤ ∑ i, (FloatOps.sitofp (F := Ideal) .f32 (BitVec.setWidth 32 (BitVec.ofBool (decide (f i ≤ t)))) : EReal))
      ↔ last.val + 1 ≤ count f t := by
  rw [sum_flags, count256]
  exact Nat.cast_le

/-- The fifteen thresholds of a step. -/
def steps (lo hi : EReal) (j : Fin 15) : EReal := lo + (hi - lo) * Ideal.ofBits .f32 1031798784#32 * k0_pay44 (F := Ideal) (ix2 j (0 : Fin 1))

theorem steps_eq (lo hi : EReal) (j : Fin 15) : steps lo hi j = lo + (hi - lo) * ((1 / 16 : ℝ) : EReal) * (((j.val + 1 : ℕ) : ℝ) : EReal) := by
  have h : k0_pay44 (F := Ideal) (ix2 j (0 : Fin 1)) = (((j.val + 1 : ℕ) : ℝ) : EReal) := by
    pointwise [k0_pay44]
    exact step_number j
  rw [steps, sixteenth, h]

/-- A step's bounds, as the body computes them. -/
theorem step {f : Fin 2048 → EReal} {w : ℝ} {lo hi lo' hi' : EReal} (b : Bracket f last w lo hi)
    (hlo : lo' = Finset.univ.fold max (Ideal.ofBits .f32 4286578688#32) fun j =>
      if ∑ i, (FloatOps.sitofp (F := Ideal) .f32 (BitVec.setWidth 32 (BitVec.ofBool (decide (f i ≤ steps lo hi j)))) : EReal) < Ideal.ofBits .f32 1132462080#32
        then steps lo hi j else lo)
    (hhi : hi' = Finset.univ.fold min (Ideal.ofBits .f32 2139095040#32) fun j =>
      if Ideal.ofBits .f32 1132462080#32 ≤ ∑ i, (FloatOps.sitofp (F := Ideal) .f32 (BitVec.setWidth 32 (BitVec.ofBool (decide (f i ≤ steps lo hi j)))) : EReal)
        then steps lo hi j else hi) : Bracket f last (w / 16) lo' hi' := by
  simp only [count_lt, count_ge] at hlo hhi
  rw [bottom] at hlo
  rw [topmost] at hhi
  exact b.sixteen (steps lo hi) (steps_eq lo hi) hlo hhi

/-- Where the search starts. -/
theorem begin {f : Fin 2048 → EReal} {M : ℝ} (h0 : ∀ n, 0 ≤ f n) (hM : Finset.univ.fold max ⊥ f = (M : EReal)) {lo hi : EReal} (hlo : lo = 0)
    (hhi : hi = Finset.univ.fold max (Ideal.ofBits .f32 4286578688#32) f + 1) : Bracket f last (M + 1) lo hi := by
  rw [bottom, hM] at hhi
  have hle : kth f last ≤ (M : EReal) := by
    rw [← hM]; exact (Finset.le_fold_max _).2 (Or.inr ⟨_, Finset.mem_univ _, le_rfl⟩)
  have h1 : hi = ((M + 1 : ℝ) : EReal) := by rw [hhi]; norm_cast
  refine ⟨hlo ▸ h0 _, ?_, 0, M + 1, by rw [hlo]; rfl, h1, by linarith⟩
  rw [h1]
  exact hle.trans (EReal.coe_le_coe_iff.mpr (by linarith))

variable {L : Loads} {P : Cloud} (h : Holds L P) {M : Fin 4 → ℝ} (hM : ∀ p, Finset.univ.fold max ⊥ (d2 P p) = (M p : EReal))
include h hM

omit h hM in
theorem d2_nonneg (P : Cloud) (p : Fin 4) (n : Fin 2048) : 0 ≤ d2 P p n := by
  unfold d2 dist2
  refine Finset.sum_nonneg fun c _ => ?_
  rcases le_total 0 (P (seed P p) c - P n c) with a | a
  · exact EReal.mul_nonneg a a
  · rw [← neg_mul_neg]
    exact EReal.mul_nonneg (EReal.neg_nonneg.mpr a) (EReal.neg_nonneg.mpr a)

omit hM in
theorem dd_at' (p : Fin 4) (n : Fin 2048) : k0_pay43 (F := Ideal) L.X L.Y L.Z L.stack L.sx L.sy (ix2 p n) = d2 P p n := dd_at h p n

omit hM in
theorem dd1_at (j : Fin 15) (n : Fin 2048) : L.dd1 (ix2 j n) = d2 P 1 n := by
  show k0_pay51 (F := Ideal) L.X L.Y L.Z L.stack L.sx L.sy _ = _
  unfold k0_pay51
  pointwise
  exact dd_at' h 1 n

omit hM in
theorem top1_at : L.top1 (ix2 (0 : Fin 1) (0 : Fin 1)) = Finset.univ.fold max (Ideal.ofBits .f32 4286578688#32) (d2 P 1) := by
  show k0_pay53 (F := Ideal) L.X L.Y L.Z L.stack L.sx L.sy _ = _
  unfold k0_pay53
  pointwise
  simp only [dd_at' h]

theorem search0_at : Bracket (d2 P 0) last ((M 0 + 1) / 16 ^ 10) (L.search0.1 (ix2 (0 : Fin 1) (0 : Fin 1))) (L.search0.2 (ix2 (0 : Fin 1) (0 : Fin 1))) := by
  refine narrowed (fun w (u : FVec Ideal S1x1 .f32 × FVec Ideal S1x1 .f32) => Bracket (d2 P 0) last w (u.1 (ix2 (0 : Fin 1) (0 : Fin 1))) (u.2 (ix2 (0 : Fin 1) (0 : Fin 1))))
    _ 16 (fun w u b => step b ?_ ?_) 10 (M 0 + 1) _ (begin (d2_nonneg P 0) (hM 0) ?_ ?_)
  · pointwise [k0_pay49, k0_pay48, k0_pay47]
    simp only [dd_at' h]; rfl
  · pointwise [k0_pay50, k0_pay48, k0_pay47]
    simp only [dd_at' h]; rfl
  · pointwise [k0_pay45]
  · pointwise [k0_pay46]
    simp only [dd_at' h]

theorem search1_at : Bracket (d2 P 1) last ((M 1 + 1) / 16 ^ 10) (L.search1.1 (ix2 (0 : Fin 1) (0 : Fin 1))) (L.search1.2 (ix2 (0 : Fin 1) (0 : Fin 1))) := by
  refine narrowed (fun w (u : FVec Ideal S1x1 .f32 × FVec Ideal S1x1 .f32) => Bracket (d2 P 1) last w (u.1 (ix2 (0 : Fin 1) (0 : Fin 1))) (u.2 (ix2 (0 : Fin 1) (0 : Fin 1))))
    _ 16 (fun w u b => step b ?_ ?_) 10 (M 1 + 1) _ (begin (d2_nonneg P 1) (hM 1) ?_ ?_)
  · pointwise [k0_pay58, k0_pay57, k0_pay56]
    simp only [dd1_at h]; rfl
  · pointwise [k0_pay59, k0_pay57, k0_pay56]
    simp only [dd1_at h]; rfl
  · pointwise [k0_pay52]
  · pointwise [k0_pay55, k0_pay54]
    rw [top1_at h]

theorem search2_at : Bracket (d2 P 2) last ((M 2 + 1) / 16 ^ 10) (L.search2.1 (ix2 (0 : Fin 1) (0 : Fin 1))) (L.search2.2 (ix2 (0 : Fin 1) (0 : Fin 1))) := by
  refine narrowed (fun w (u : FVec Ideal S1x1 .f32 × FVec Ideal S1x1 .f32) => Bracket (d2 P 2) last w (u.1 (ix2 (0 : Fin 1) (0 : Fin 1))) (u.2 (ix2 (0 : Fin 1) (0 : Fin 1))))
    _ 16 (fun w u b => step b ?_ ?_) 10 (M 2 + 1) _ (begin (d2_nonneg P 2) (hM 2) ?_ ?_)
  · pointwise [k0_pay64, k0_pay63, k0_pay62]
    simp only [dd_at h]; rfl
  · pointwise [k0_pay65, k0_pay63, k0_pay62]
    simp only [dd_at h]; rfl
  · pointwise [k0_pay60]
  · pointwise [k0_pay61]
    simp only [dd_at h]

theorem search3_at : Bracket (d2 P 3) last ((M 3 + 1) / 16 ^ 10) (L.search3.1 (ix2 (0 : Fin 1) (0 : Fin 1))) (L.search3.2 (ix2 (0 : Fin 1) (0 : Fin 1))) := by
  refine narrowed (fun w (u : FVec Ideal S1x1 .f32 × FVec Ideal S1x1 .f32) => Bracket (d2 P 3) last w (u.1 (ix2 (0 : Fin 1) (0 : Fin 1))) (u.2 (ix2 (0 : Fin 1) (0 : Fin 1))))
    _ 16 (fun w u b => step b ?_ ?_) 10 (M 3 + 1) _ (begin (d2_nonneg P 3) (hM 3) ?_ ?_)
  · pointwise [k0_pay70, k0_pay69, k0_pay68]
    simp only [dd_at h]; rfl
  · pointwise [k0_pay71, k0_pay69, k0_pay68]
    simp only [dd_at h]; rfl
  · pointwise [k0_pay66]
  · pointwise [k0_pay67]
    simp only [dd_at h]

omit h hM in
theorem joined_low (a b c d : FVec Ideal S1x1 .f32) (p : Fin 4) :
    k0_pay72 (F := Ideal) a b c d (ix2 p (0 : Fin 1)) = (![a, b, c, d] p : FVec Ideal S1x1 .f32) (ix2 (0 : Fin 1) (0 : Fin 1)) := by
  pointwise [k0_pay72]
  by_cases p0 : p.val < 1
  · rw [dif_pos p0]
    obtain rfl : p = 0 := by omega
    rfl
  rw [dif_neg p0]
  by_cases p1 : p.val - 1 < 1
  · rw [dif_pos p1]
    obtain rfl : p = 1 := by omega
    rfl
  rw [dif_neg p1]
  by_cases p2 : p.val - 1 - 1 < 1
  · rw [dif_pos p2]
    obtain rfl : p = 2 := by omega
    rfl
  rw [dif_neg p2]
  obtain rfl : p = 3 := by omega
  rfl

omit h hM in
theorem joined_high (a b c d : FVec Ideal S1x1 .f32) (p : Fin 4) :
    k0_pay73 (F := Ideal) a b c d (ix2 p (0 : Fin 1)) = (![a, b, c, d] p : FVec Ideal S1x1 .f32) (ix2 (0 : Fin 1) (0 : Fin 1)) :=
  joined_low a b c d p

theorem halve_at (p : Fin 4) : Bracket (d2 P p) last ((M p + 1) / 16 ^ 10 / 2 ^ 8) (L.halve.1 (ix2 p (0 : Fin 1))) (L.halve.2 (ix2 p (0 : Fin 1))) := by
  refine narrowed (fun w (u : FVec Ideal S4x1 .f32 × FVec Ideal S4x1 .f32) => Bracket (d2 P p) last w (u.1 (ix2 p (0 : Fin 1))) (u.2 (ix2 p (0 : Fin 1))))
    _ 2 (fun w u b => b.two (mid := k0_pay74 (F := Ideal) u.1 u.2 (ix2 p (0 : Fin 1))) ?_ ?_ ?_) 8 _ _ ?_
  · pointwise [k0_pay74]
    rw [half]
  · unfold k0_pay76 k0_pay75
    pointwise
    simp only [dd_at h, count_ge]
  · unfold k0_pay77 k0_pay75
    pointwise
    simp only [dd_at h, count_ge]
  · show Bracket (d2 P p) last _ (k0_pay72 (F := Ideal) L.lo0 L.search1.1 L.search2.1 L.search3.1 (ix2 p (0 : Fin 1))) (k0_pay73 (F := Ideal) L.hi0 L.search1.2 L.search2.2 L.search3.2 (ix2 p (0 : Fin 1)))
    rw [joined_low, joined_high]
    fin_cases p
    · exact search0_at h hM
    · exact search1_at h hM
    · exact search2_at h hM
    · exact search3_at h hM

omit h hM in
/-- The width by which the patch's points must stand apart from the others. -/
def margin (f : Fin 2048 → EReal) : EReal := (Finset.univ.fold max ⊥ f + 1) * (((1 / 281474976710656 : ℝ)) : EReal)

omit h hM in
/-- A patch's 256 nearest points stand apart from the others. -/
def Apart (P : Cloud) (p : Fin 4) : Prop := count (d2 P p) (kth (d2 P p) last + margin (d2 P p)) = 256

omit h hM in
/-- Then the greatest distance is a real number. -/
theorem greatest (P : Cloud) (p : Fin 4) (a : Apart P p) : ∃ M : ℝ, Finset.univ.fold max ⊥ (d2 P p) = (M : EReal) := by
  have hb : Finset.univ.fold max ⊥ (d2 P p) ≠ ⊥ := fun e => by
    have : d2 P p 0 ≤ ⊥ := by rw [← e]; exact (Finset.le_fold_max _).2 (Or.inr ⟨_, Finset.mem_univ _, le_rfl⟩)
    exact absurd ((d2_nonneg P p 0).trans this) (by simp)
  have ht : Finset.univ.fold max ⊥ (d2 P p) ≠ ⊤ := fun e => by
    unfold Apart margin at a
    have h1 : (1 / 281474976710656 : ℝ) > 0 := by norm_num
    rw [e, show (⊤ : EReal) + 1 = ⊤ from rfl, EReal.top_mul_coe_of_pos h1, EReal.add_top_of_ne_bot (x := kth (d2 P p) last)
      (fun e => absurd (e ▸ (d2_nonneg P p _ : 0 ≤ kth (d2 P p) last) : (0 : EReal) ≤ ⊥) (by simp))] at a
    simp [Search.count] at a
  exact ⟨_, (EReal.coe_toReal ht hb).symm⟩

omit hM in
theorem mask_at (a : ∀ p, Apart P p) (p : Fin 4) (n : Fin 2048) : L.mask (ix2 p n) = if n ∈ firsts (d2 P p) last then 1 else 0 := by
  choose M hM using fun p => greatest P p (a p)
  have b := halve_at h hM p
  have sel := b.selects (i := n) (by
    have := a p
    unfold Apart margin at this
    rw [hM p] at this
    refine Eq.trans ?_ this
    congr 2
    rw [show ((M p : EReal) + 1) = ((M p + 1 : ℝ) : EReal) by norm_cast, ← EReal.coe_mul]
    congr 1
    norm_num; ring)
  show k0_pay78 (F := Ideal) L.dd L.halve.2 _ = _
  unfold k0_pay78
  pointwise
  rw [dd_at h]
  exact sitofp_flag _ _ (by by_cases c : n ∈ firsts (d2 P p) last <;> simp [c, sel])

end Cert.Proof.KernelSearch

end
-- ==== Proof.KernelSimp.lean ====
/- From the selected points to the simplified points, as the body computes them. -/
module

public import proofs.«01_k».proof.Proof.KernelSearch

@[expose] public section

noncomputable section

namespace Cert.Proof.KernelSimp

open Idealize.ShloMosaic Cert.KernelIdeal Cert.KernelIdeal.Gen Cert.Proof.Spec Cert.Proof.Body Cert.Proof.Search Cert.Proof.Rows Cert.Proof.KernelSearch

/-- The operands hold the weights `A`. -/
structure Weights (L : Loads) (A : Par) : Prop where
  w0 : ∀ i c, L.w0t (ix2 i c) = A.w0 c i
  b0 : ∀ i, L.b0c (ix2 i (0 : Fin 1)) = A.b0 i
  w1 : ∀ i c, L.w1t (ix2 i c) = A.w1 c i
  b1 : ∀ i, L.b1c (ix2 i (0 : Fin 1)) = A.b1 i
  w2 : ∀ i c, L.w2t (ix2 i c) = A.w2 c i
  b2 : ∀ i, L.b2c (ix2 i (0 : Fin 1)) = A.b2 i
  w3 : ∀ i c, L.w3t (ix2 i c) = A.w3 c i
  b3 : ∀ i, L.b3c (ix2 i (0 : Fin 1)) = A.b3 i
  w4 : ∀ i c, L.w4t (ix2 i c) = A.w4 c i
  b4 : ∀ i, L.b4c (ix2 i (0 : Fin 1)) = A.b4 i
  v0 : ∀ i c, L.v0t (ix2 i c) = A.v0 c i
  c0 : ∀ i, L.c0c (ix2 i (0 : Fin 1)) = A.c0 i
  v1 : ∀ i c, L.v1t (ix2 i c) = A.v1 c i
  c1 : ∀ i, L.c1c (ix2 i (0 : Fin 1)) = A.c1 i
  v2 : ∀ i c, L.v2t (ix2 i c) = A.v2 c i
  c2 : ∀ i, L.c2c (ix2 i (0 : Fin 1)) = A.c2 i
  vx : ∀ (o : Fin 16) c, L.wxt (ix2 o c) = A.v3 c ⟨o.val * 3 + (0 : Fin 3).val, by omega⟩
  vy : ∀ (o : Fin 16) c, L.wyt (ix2 o c) = A.v3 c ⟨o.val * 3 + (1 : Fin 3).val, by omega⟩
  vz : ∀ (o : Fin 16) c, L.wzt (ix2 o c) = A.v3 c ⟨o.val * 3 + (2 : Fin 3).val, by omega⟩
  cx : ∀ o : Fin 16, L.bxc (ix2 o (0 : Fin 1)) = A.c3 ⟨o.val * 3 + (0 : Fin 3).val, by omega⟩
  cy : ∀ o : Fin 16, L.byc (ix2 o (0 : Fin 1)) = A.c3 ⟨o.val * 3 + (1 : Fin 3).val, by omega⟩
  cz : ∀ o : Fin 16, L.bzc (ix2 o (0 : Fin 1)) = A.c3 ⟨o.val * 3 + (2 : Fin 3).val, by omega⟩

/-- The nearest points are the first of the order. -/
theorem firsts_eq (P : Cloud) (p : Fin 4) : firsts (d2 P p) last = Finset.univ.image (knn P p) := by
  ext n
  simp only [firsts, Finset.mem_image, Finset.mem_Iic, Finset.mem_univ, true_and]
  constructor
  · rintro ⟨i, hi, rfl⟩
    exact ⟨⟨i.val, by have : i.val ≤ 255 := hi; omega⟩, rfl⟩
  · rintro ⟨k, rfl⟩
    exact ⟨⟨k.val, by omega⟩, (show k.val ≤ 255 by omega), rfl⟩

theorem knn_mem (P : Cloud) (p : Fin 4) (k : Fin 256) : knn P p k ∈ firsts (d2 P p) last := by
  rw [firsts_eq]; exact Finset.mem_image_of_mem _ (Finset.mem_univ _)

theorem knn_injective (P : Cloud) (p : Fin 4) : Function.Injective (knn P p) := fun a b e => by
  have := congrArg Fin.val (top_injective _ e)
  exact Fin.ext this

/-- A sum over the mask is a sum over the nearest points. -/
theorem masked_sum {P : Cloud} {p : Fin 4} {m : Fin 2048 → EReal} (hm : ∀ n, m n = if n ∈ firsts (d2 P p) last then 1 else 0) (g : Fin 2048 → EReal) :
    ∑ n, m n * g n = ∑ k, g (knn P p k) := by
  simp only [hm, ite_mul, one_mul, zero_mul]
  rw [Finset.sum_ite_mem, Finset.univ_inter, firsts_eq, Finset.sum_image fun a _ b _ e => knn_injective P p e]

/-- A greatest entry over the mask, with zeros outside it, is one over the nearest points, where these are not negative. -/
theorem masked_max {P : Cloud} {p : Fin 4} {m : Fin 2048 → EReal} (hm : ∀ n, m n = if n ∈ firsts (d2 P p) last then 1 else 0) (g : Fin 2048 → EReal)
    (h0 : ∀ n, 0 ≤ g n) : (Finset.univ.fold max (Ideal.ofBits .f32 4286578688#32) fun n => if 0 < m n then g n else 0)
      = Finset.univ.fold max (Ideal.ofBits .f32 4286578688#32) fun k => g (knn P p k) := by
  rw [bottom]
  have pick : ∀ n, (if 0 < m n then g n else 0) = if n ∈ firsts (d2 P p) last then g n else 0 := fun n => by
    rw [hm n]; by_cases c : n ∈ firsts (d2 P p) last <;> simp [c]
  simp only [pick]
  apply le_antisymm
  · refine (Finset.fold_max_le _).2 ⟨bot_le, fun n _ => ?_⟩
    by_cases c : n ∈ firsts (d2 P p) last
    · rw [if_pos c]
      rw [firsts_eq] at c
      obtain ⟨k, _, rfl⟩ := Finset.mem_image.mp c
      exact (Finset.le_fold_max _).2 (Or.inr ⟨k, Finset.mem_univ _, le_rfl⟩)
    · rw [if_neg c]
      exact (h0 _).trans ((Finset.le_fold_max _).2 (Or.inr ⟨(0 : Fin 256), Finset.mem_univ _, le_rfl⟩))
  · refine (Finset.fold_max_le _).2 ⟨bot_le, fun k _ => ?_⟩
    refine (Finset.le_fold_max _).2 (Or.inr ⟨knn P p k, Finset.mem_univ _, ?_⟩)
    rw [if_pos (knn_mem P p k)]

theorem per256 (s : EReal) : s * Ideal.ofBits .f32 998244352#32 = Ideal.div s (Ideal.ofBits .f32 0x43800000#32) := by
  rw [show Ideal.ofBits .f32 0x43800000#32 = ((256 : ℝ) : EReal) from by rw [show (0x43800000#32 : BitVec 32) = 1132462080#32 from rfl, count256]; rfl]
  have h : Ideal.ofBits .f32 998244352#32 = ((1 / 256 : ℝ) : EReal) := by
    simp [Ideal.ofBits, Ideal.ieee]; rw [← EReal.coe_mul]; norm_num
  rw [h, Ideal.div, if_neg (by norm_num), ← EReal.coe_inv]
  norm_num

theorem sqrt_mono {a b : EReal} (h : a ≤ b) : Ideal.sqrt a ≤ Ideal.sqrt b := by
  induction a with
  | bot => exact bot_le
  | top => rw [top_le_iff.mp h]
  | coe a =>
    induction b with
    | bot => exact absurd h (by simp)
    | top => exact le_top
    | coe b =>
      have hab := EReal.coe_le_coe_iff.mp h
      show (if a < 0 then (⊥ : EReal) else (Real.sqrt a : EReal)) ≤ if b < 0 then (⊥ : EReal) else (Real.sqrt b : EReal)
      by_cases c : a < 0
      · rw [if_pos c]; exact bot_le
      · rw [if_neg c, if_neg (by linarith)]
        exact EReal.coe_le_coe_iff.mpr (Real.sqrt_le_sqrt hab)

/-- The root of the greatest is the greatest of the roots. -/
theorem sqrt_max (g : Fin 256 → EReal) (e : EReal) : Ideal.sqrt (Finset.univ.fold max (Ideal.ofBits .f32 4286578688#32) g + e)
    = Finset.univ.fold max (Ideal.ofBits .f32 4286578688#32) fun k => Ideal.sqrt (g k + e) := by
  obtain ⟨a, _, ha⟩ := Finset.exists_max_image (Finset.univ : Finset (Fin 256)) g ⟨0, Finset.mem_univ _⟩
  rw [fold_max_eq g a fun n => ha n (Finset.mem_univ _),
    fold_max_eq (fun k => Ideal.sqrt (g k + e)) a fun n => sqrt_mono (add_le_add_left (ha n (Finset.mem_univ _)) e)]

theorem layer_nonneg {a b : ℕ} (w : Fin a → Fin b → EReal) (c : Fin b → EReal) (h : Fin a → EReal) (j : Fin b) : 0 ≤ layer w c h j := le_max_right _ _

/-- Four columns side by side. -/
theorem four (p : Fin 4) (g0 g1 g2 g3 : Fin 1 → EReal) (r : Fin 4 → EReal) (h0 : g0 0 = r 0) (h1 : g1 0 = r 1) (h2 : g2 0 = r 2) (h3 : g3 0 = r 3) :
    (if h : p.val < 1 then g0 ⟨p.val, h⟩ else if h : p.val - 1 < 1 then g1 ⟨p.val - 1, h⟩
      else if h : p.val - 1 - 1 < 1 then g2 ⟨p.val - 1 - 1, h⟩ else g3 ⟨p.val - 1 - 1 - 1, by omega⟩) = r p := by
  split_ifs with p0 p1 p2
  · obtain rfl : p = 0 := by omega
    exact h0
  · obtain rfl : p = 1 := by omega
    exact h1
  · obtain rfl : p = 2 := by omega
    exact h2
  · obtain rfl : p = 3 := by omega
    exact h3

/-- The patch of a row, and its place in the patch. -/
def patch (q : Fin 64) : Fin 4 := ⟨q.val / 16, by omega⟩
def spot (q : Fin 64) : Fin 16 := ⟨q.val % 16, by omega⟩

/-- Four blocks of sixteen rows, one under the other. -/
theorem sixty_four (q : Fin 64) (g : Fin 4 → Fin 16 → EReal) : (if h : q.val < 16 then g 0 ⟨q.val, h⟩ else if h : q.val - 16 < 16 then g 1 ⟨q.val - 16, h⟩
    else if h : q.val - 16 - 16 < 16 then g 2 ⟨q.val - 16 - 16, h⟩ else g 3 ⟨q.val - 16 - 16 - 16, by omega⟩) = g (patch q) (spot q) := by
  split_ifs with p0 p1 p2
  · rw [show patch q = 0 from Fin.ext (show q.val / 16 = 0 by omega), show spot q = ⟨q.val, p0⟩ from Fin.ext (show q.val % 16 = q.val by omega)]
  · rw [show patch q = 1 from Fin.ext (show q.val / 16 = 1 by omega), show spot q = ⟨q.val - 16, p1⟩ from Fin.ext (show q.val % 16 = q.val - 16 by omega)]
  · rw [show patch q = 2 from Fin.ext (show q.val / 16 = 2 by omega), show spot q = ⟨q.val - 16 - 16, p2⟩ from Fin.ext (show q.val % 16 = q.val - 16 - 16 by omega)]
  · rw [show patch q = 3 from Fin.ext (show q.val / 16 = 3 by omega),
      show spot q = ⟨q.val - 16 - 16 - 16, by omega⟩ from Fin.ext (show q.val % 16 = q.val - 16 - 16 - 16 by omega)]

variable {L : Loads} {P : Cloud} {A : Par} (h : Holds L P) (a : ∀ p, Apart P p) (w : Weights L A)

section points
include h a

theorem mx_at (p : Fin 4) : L.mx (ix2 p (0 : Fin 1)) = mean P p 0 := by
  show k0_pay79 (F := Ideal) L.X L.dd L.halve.2 _ = _
  unfold k0_pay79
  pointwise
  simp only [X_at h _]
  have hm : ∀ n, k0_pay78 (F := Ideal) L.dd L.halve.2 (ix2 p n) = if n ∈ firsts (d2 P p) last then 1 else 0 := mask_at h a p
  rw [masked_sum hm, per256]
  rfl

theorem my_at (p : Fin 4) : L.my (ix2 p (0 : Fin 1)) = mean P p 1 := by
  show k0_pay81 (F := Ideal) L.mask (k0_pay80 (F := Ideal) L.Y) _ = _
  unfold k0_pay81 k0_pay80
  pointwise
  simp only [Y_at h _]
  rw [masked_sum (fun n => mask_at h a p n), per256]
  rfl

theorem mz_at (p : Fin 4) : L.mz (ix2 p (0 : Fin 1)) = mean P p 2 := by
  show k0_pay82 (F := Ideal) L.Z L.mask _ = _
  unfold k0_pay82
  pointwise
  simp only [Z_at h _]
  rw [masked_sum (fun n => mask_at h a p n), per256]
  rfl

theorem ex_at (p : Fin 4) (n : Fin 2048) : k0_pay83 (F := Ideal) L.X L.mx (ix2 p n) = cen P p n 0 := by
  pointwise [k0_pay83]
  rw [X_at h, mx_at h a]
  rfl

theorem ey_at (p : Fin 4) (n : Fin 2048) : k0_pay84 (F := Ideal) L.Y L.mask L.yy (ix2 p n) = cen P p n 1 := by
  unfold k0_pay84
  pointwise
  rw [Y_at h, show k0_pay81 (F := Ideal) L.mask L.yy (ix2 p (0 : Fin 1)) = mean P p 1 from my_at h a p]
  rfl

theorem ez_at (p : Fin 4) (n : Fin 2048) : k0_pay85 (F := Ideal) L.Z L.mask (ix2 p n) = cen P p n 2 := by
  unfold k0_pay85
  pointwise
  rw [Z_at h, show k0_pay82 (F := Ideal) L.Z L.mask (ix2 p (0 : Fin 1)) = mean P p 2 from mz_at h a p]
  rfl

theorem norm_at (p : Fin 4) : L.norm (ix2 p (0 : Fin 1)) = Spec.norm P p := by
  show k0_pay86 (F := Ideal) L.X L.Y L.Z L.mask L.mx L.yy _ = _
  unfold k0_pay86
  pointwise
  simp only [ex_at h a, ey_at h a, ez_at h a]
  have hs : ∀ n, cen P p n 0 * cen P p n 0 + cen P p n 1 * cen P p n 1 + cen P p n 2 * cen P p n 2 = sqn P p n := fun n => by
    rw [sqn, Fin.sum_univ_three]
  simp only [hs]
  have h0 : ∀ n, 0 ≤ sqn P p n := fun n => by
    unfold sqn
    refine Finset.sum_nonneg fun c _ => ?_
    rcases le_total 0 (cen P p n c) with a | a
    · exact EReal.mul_nonneg a a
    · rw [← neg_mul_neg]
      exact EReal.mul_nonneg (EReal.neg_nonneg.mpr a) (EReal.neg_nonneg.mpr a)
  rw [masked_max (fun n => mask_at h a p n) _ h0, sqrt_max]
  rfl

theorem xn_at (p : Fin 4) (n : Fin 2048) : L.xn (ix2 p n) = pat P p n 0 := by
  show k0_pay87 (F := Ideal) L.X L.Y L.Z L.mask L.mx L.yy _ = _
  unfold k0_pay87
  pointwise
  rw [ex_at h a, show k0_pay86 (F := Ideal) L.X L.Y L.Z L.mask L.mx L.yy (ix2 p (0 : Fin 1)) = Spec.norm P p from norm_at h a p]
  rfl

theorem yn_at (p : Fin 4) (n : Fin 2048) : L.yn (ix2 p n) = pat P p n 1 := by
  show k0_pay88 (F := Ideal) L.X L.Y L.Z L.mask L.mx L.yy _ = _
  unfold k0_pay88
  pointwise
  rw [ey_at h a, show k0_pay86 (F := Ideal) L.X L.Y L.Z L.mask L.mx L.yy (ix2 p (0 : Fin 1)) = Spec.norm P p from norm_at h a p]
  rfl

theorem zn_at (p : Fin 4) (n : Fin 2048) : L.zn (ix2 p n) = pat P p n 2 := by
  show k0_pay89 (F := Ideal) L.X L.Y L.Z L.mask L.mx L.yy _ = _
  unfold k0_pay89
  pointwise
  rw [ez_at h a, show k0_pay86 (F := Ideal) L.X L.Y L.Z L.mask L.mx L.yy (ix2 p (0 : Fin 1)) = Spec.norm P p from norm_at h a p]
  rfl

/-- A patch's pooled features. -/
theorem pooled {p : Fin 4} {j : Fin 128} {g : Fin 2048 → EReal} (hg : ∀ n, g n = enc A (pat P p n) j) :
    (Finset.univ.fold max (Ideal.ofBits .f32 4286578688#32) fun n => if 0 < L.mask (ix2 p n) then g n else 0) = feat A P p j := by
  simp only [hg]
  rw [masked_max (fun n => mask_at h a p n) (fun n => enc A (pat P p n) j) fun n => layer_nonneg _ _ _ _]
  rfl

end points

section networks
include h a w

theorem pool0_at (j : Fin 128) : L.pool0 (ix2 j (0 : Fin 1)) = feat A P 0 j := by
  show k0_pay95 (F := Ideal) L.w0t L.b0c L.w1t L.b1c L.w2t L.b2c L.w3t L.b3c L.w4t L.b4c L.mask L.xn0 L.yn0 L.zn0 L.w00 _ = _
  unfold k0_pay95
  pointwise
  refine pooled h a fun n => ?_
  have e1 : L.xn0 (ix2 (0 : Fin 1) n) = pat P 0 n 1 := by
    rw [← yn_at h a]
    show k0_pay91 (F := Ideal) L.X L.Y L.Z L.mask L.mx L.yy _ = _
    unfold k0_pay91
    pointwise
    rfl
  have e2 : L.yn0 (ix2 (0 : Fin 1) n) = pat P 0 n 2 := by
    rw [← zn_at h a]
    show k0_pay92 (F := Ideal) L.X L.Y L.Z L.mask L.mx L.yy _ = _
    unfold k0_pay92
    pointwise
    rfl
  have e3 : ∀ i : Fin 64, L.zn0 (ix2 i n) = L.w0t (ix2 i (0 : Fin 3)) * pat P 0 n 0 := fun i => by
    rw [← xn_at h a]
    show k0_pay93 (F := Ideal) L.w0t L.X L.Y L.Z L.mask L.mx L.yy _ = _
    unfold k0_pay93
    pointwise
    rfl
  have e4 : ∀ i : Fin 64, L.w00 (ix2 i (0 : Fin 1)) = L.w0t (ix2 i (1 : Fin 3)) := fun i => by
    show k0_pay94 (F := Ideal) L.w0t _ = _
    unfold k0_pay94
    pointwise
  simp only [e1, e2, e3, e4, enc, layer, dense, Fin.sum_univ_three, w.w0, w.b0, w.w1, w.b1, w.w2, w.b2, w.w3, w.b3, w.w4, w.b4, mul_comm]

theorem pool1_at (j : Fin 128) : L.pool1 (ix2 j (0 : Fin 1)) = feat A P 1 j := by
  show k0_pay100 (F := Ideal) L.w0t L.b0c L.w1t L.b1c L.w2t L.b2c L.w3t L.b3c L.w4t L.b4c L.mask L.yn1 L.zn1 L.w01 L.xn1 _ = _
  unfold k0_pay100
  pointwise
  refine pooled h a fun n => ?_
  have e1 : L.yn1 (ix2 (0 : Fin 1) n) = pat P 1 n 1 := by
    rw [← yn_at h a]
    show k0_pay96 (F := Ideal) L.yn _ = _
    pointwise [k0_pay96]
  have e2 : L.zn1 (ix2 (0 : Fin 1) n) = pat P 1 n 2 := by
    rw [← zn_at h a]
    show k0_pay97 (F := Ideal) L.zn _ = _
    pointwise [k0_pay97]
  have e3 : ∀ i : Fin 64, L.w01 (ix2 i n) = L.w0t (ix2 i (0 : Fin 3)) := fun i => by
    show k0_pay98 (F := Ideal) L.w0t _ = _
    pointwise [k0_pay98]
  have e4 : ∀ i : Fin 64, L.xn1 (ix2 i n) = pat P 1 n 0 := fun i => by
    rw [← xn_at h a]
    show k0_pay99 (F := Ideal) L.xn _ = _
    pointwise [k0_pay99]
  simp only [e1, e2, e3, e4, enc, layer, dense, Fin.sum_univ_three, w.w0, w.b0, w.w1, w.b1, w.w2, w.b2, w.w3, w.b3, w.w4, w.b4, mul_comm]

theorem pool2_at (j : Fin 128) : L.pool2 (ix2 j (0 : Fin 1)) = feat A P 2 j := by
  show k0_pay105 (F := Ideal) L.w0t L.b0c L.w1t L.b1c L.w2t L.b2c L.w3t L.b3c L.w4t L.b4c L.mask L.xn2 L.yn2 L.zn2 L.w02 _ = _
  unfold k0_pay105
  pointwise
  refine pooled h a fun n => ?_
  have e1 : L.xn2 (ix2 (0 : Fin 1) n) = pat P 2 n 0 := by
    rw [← xn_at h a]
    show k0_pay101 (F := Ideal) L.xn _ = _
    pointwise [k0_pay101]
  have e2 : L.yn2 (ix2 (0 : Fin 1) n) = pat P 2 n 1 := by
    rw [← yn_at h a]
    show k0_pay102 (F := Ideal) L.yn _ = _
    pointwise [k0_pay102]
  have e3 : L.zn2 (ix2 (0 : Fin 1) n) = pat P 2 n 2 := by
    rw [← zn_at h a]
    show k0_pay103 (F := Ideal) L.zn _ = _
    pointwise [k0_pay103]
  have e4 : ∀ i : Fin 64, L.w02 (ix2 i (0 : Fin 1)) = L.w0t (ix2 i (0 : Fin 3)) := fun i => by
    show k0_pay104 (F := Ideal) L.w0t _ = _
    pointwise [k0_pay104]
  simp only [e1, e2, e3, e4, enc, layer, dense, Fin.sum_univ_three, w.w0, w.b0, w.w1, w.b1, w.w2, w.b2, w.w3, w.b3, w.w4, w.b4, mul_comm]

theorem pool3_at (j : Fin 128) : L.pool3 (ix2 j (0 : Fin 1)) = feat A P 3 j := by
  show k0_pay108 (F := Ideal) L.w0t L.b0c L.w1t L.b1c L.w2t L.b2c L.w3t L.b3c L.w4t L.b4c L.mask L.zn L.xn3 L.yn3 _ = _
  unfold k0_pay108
  pointwise
  refine pooled h a fun n => ?_
  have e1 : L.xn3 (ix2 (0 : Fin 1) n) = pat P 3 n 0 := by
    rw [← xn_at h a]
    show k0_pay106 (F := Ideal) L.xn _ = _
    pointwise [k0_pay106]
  have e2 : L.yn3 (ix2 (0 : Fin 1) n) = pat P 3 n 1 := by
    rw [← yn_at h a]
    show k0_pay107 (F := Ideal) L.yn _ = _
    pointwise [k0_pay107]
  simp only [e1, e2, zn_at h a, enc, layer, dense, Fin.sum_univ_three, w.w0, w.b0, w.w1, w.b1, w.w2, w.b2, w.w3, w.b3, w.w4, w.b4, mul_comm]

theorem hid_at (p : Fin 4) (j : Fin 256) :
    k0_pay109 (F := Ideal) L.v0t L.c0c L.v1t L.c1c L.v2t L.c2c L.pool0 L.pool1 L.pool2 L.pool3 (ix2 j p) = hid A P p j := by
  unfold k0_pay109
  pointwise
  have e : ∀ x : Fin 128, (if h : p.val < 1 then L.pool0 (ix2 x ⟨p.val, h⟩) else if h : p.val - 1 < 1 then L.pool1 (ix2 x ⟨p.val - 1, h⟩)
      else if h : p.val - 1 - 1 < 1 then L.pool2 (ix2 x ⟨p.val - 1 - 1, h⟩) else L.pool3 (ix2 x (⟨p.val - 1 - 1 - 1, by omega⟩ : Fin 1))) = feat A P p x :=
    fun x => four p (fun z => L.pool0 (ix2 x z)) (fun z => L.pool1 (ix2 x z)) (fun z => L.pool2 (ix2 x z)) (fun z => L.pool3 (ix2 x z)) (fun p => feat A P p x)
      (pool0_at h a w x) (pool1_at h a w x) (pool2_at h a w x) (pool3_at h a w x)
  simp only [e, hid, layer, dense, w.v0, w.c0, w.v1, w.c1, w.v2, w.c2, mul_comm]

theorem qx_at (p : Fin 4) (o : Fin 16) : L.qx (ix2 o p) = net A P p o 0 := by
  show k0_pay110 (F := Ideal) L.v0t L.c0c L.v1t L.c1c L.v2t L.c2c L.wxt L.bxc L.pool0 L.pool1 L.pool2 L.pool3 _ = _
  unfold k0_pay110
  pointwise
  simp only [hid_at h a w, net, dense, w.vx, w.cx, mul_comm]

theorem qy_at (p : Fin 4) (o : Fin 16) : L.qy (ix2 o p) = net A P p o 1 := by
  show k0_pay111 (F := Ideal) L.v0t L.c0c L.v1t L.c1c L.v2t L.c2c L.wyt L.byc L.pool0 L.pool1 L.pool2 L.pool3 _ = _
  unfold k0_pay111
  pointwise
  simp only [hid_at h a w, net, dense, w.vy, w.cy, mul_comm]

theorem qz_at (p : Fin 4) (o : Fin 16) : L.qz (ix2 o p) = net A P p o 2 := by
  show k0_pay112 (F := Ideal) L.v0t L.c0c L.v1t L.c1c L.v2t L.c2c L.wzt L.bzc L.pool0 L.pool1 L.pool2 L.pool3 _ = _
  unfold k0_pay112
  pointwise
  simp only [hid_at h a w, net, dense, w.vz, w.cz, mul_comm]

theorem QX_at (q : Fin 64) : L.QX (ix2 q (0 : Fin 1)) = net A P (patch q) (spot q) 0 := by
  rw [← qx_at h a w]
  show k0_pay116 (F := Ideal) L.qx _ = _
  pointwise [k0_pay116]
  exact sixty_four q fun p o => L.qx (ix2 o p)

theorem QY_at (q : Fin 64) : L.QY (ix2 q (0 : Fin 1)) = net A P (patch q) (spot q) 1 := by
  rw [← qy_at h a w]
  show k0_pay117 (F := Ideal) L.qy _ = _
  pointwise [k0_pay117]
  exact sixty_four q fun p o => L.qy (ix2 o p)

theorem QZ_at (q : Fin 64) : L.QZ (ix2 q (0 : Fin 1)) = net A P (patch q) (spot q) 2 := by
  rw [← qz_at h a w]
  show k0_pay118 (F := Ideal) L.qz _ = _
  pointwise [k0_pay118]
  exact sixty_four q fun p o => L.qz (ix2 o p)

end networks

section spread
include h a

theorem NORM_at (q : Fin 64) : L.NORM (ix2 q (0 : Fin 1)) = Spec.norm P (patch q) := by
  rw [← norm_at h a]
  show k0_pay137 (F := Ideal) L.norm _ = _
  pointwise [k0_pay137]
  exact sixty_four q fun p _ => L.norm (ix2 p 0)

theorem MX_at (q : Fin 64) : L.MX (ix2 q (0 : Fin 1)) = mean P (patch q) 0 := by
  rw [← mx_at h a]
  show k0_pay138 (F := Ideal) L.mx _ = _
  pointwise [k0_pay138]
  exact sixty_four q fun p _ => L.mx (ix2 p 0)

theorem MY_at (q : Fin 64) : k0_pay1 (F := Ideal) L.my0 L.my1 L.my2 L.my3 (ix2 q (0 : Fin 1)) = mean P (patch q) 1 := by
  rw [← my_at h a]
  unfold Loads.my0 Loads.my1 Loads.my2 Loads.my3
  pointwise [k0_pay1, k0_pay139, k0_pay140, k0_pay141, k0_pay142]
  exact sixty_four q fun p _ => L.my (ix2 p 0)

theorem MZ_at (q : Fin 64) : k0_pay2 (F := Ideal) L.mz (ix2 q (0 : Fin 1)) = mean P (patch q) 2 := by
  rw [← mz_at h a]
  pointwise [k0_pay2]
  exact sixty_four q fun p _ => L.mz (ix2 p 0)

end spread

/-- Three columns side by side. -/
theorem three (c : Fin 3) (g0 g1 g2 : Fin 1 → EReal) (r : Fin 3 → EReal) (h0 : g0 0 = r 0) (h1 : g1 0 = r 1) (h2 : g2 0 = r 2) :
    (if h : c.val < 1 then g0 ⟨c.val, h⟩ else if h : c.val - 1 < 1 then g1 ⟨c.val - 1, h⟩ else g2 ⟨c.val - 1 - 1, by omega⟩) = r c := by
  split_ifs with p0 p1
  · obtain rfl : c = 0 := by omega
    exact h0
  · obtain rfl : c = 1 := by omega
    exact h1
  · obtain rfl : c = 2 := by omega
    exact h2

include h a w in
theorem simpOut_at (q : Fin 64) (c : Fin 3) : L.simpOut (ix3 (0 : Fin 1) q c) = simp A P (patch q) (spot q) c := by
  show k0_pay4 (F := Ideal) L.mz L.QX L.QY L.QZ L.NORM L.MX L.my0 L.my1 L.my2 L.my3 _ = _
  pointwise [k0_pay4]
  refine three c (fun z => L.QX (ix2 q z) * L.NORM (ix2 q z) + L.MX (ix2 q z))
    (fun z => L.QY (ix2 q z) * L.NORM (ix2 q z) + k0_pay1 (F := Ideal) L.my0 L.my1 L.my2 L.my3 (ix2 q z))
    (fun z => L.QZ (ix2 q z) * L.NORM (ix2 q z) + k0_pay2 (F := Ideal) L.mz (ix2 q z)) (simp A P (patch q) (spot q)) ?_ ?_ ?_
  · show L.QX (ix2 q (0 : Fin 1)) * L.NORM (ix2 q (0 : Fin 1)) + L.MX (ix2 q (0 : Fin 1)) = _
    rw [QX_at h a w, NORM_at h a, MX_at h a]
    rfl
  · show L.QY (ix2 q (0 : Fin 1)) * L.NORM (ix2 q (0 : Fin 1)) + k0_pay1 (F := Ideal) L.my0 L.my1 L.my2 L.my3 (ix2 q (0 : Fin 1)) = _
    rw [QY_at h a w, NORM_at h a, MY_at h a]
    rfl
  · show L.QZ (ix2 q (0 : Fin 1)) * L.NORM (ix2 q (0 : Fin 1)) + k0_pay2 (F := Ideal) L.mz (ix2 q (0 : Fin 1)) = _
    rw [QZ_at h a w, NORM_at h a, MZ_at h a]
    rfl

end Cert.Proof.KernelSimp

end
-- ==== Proof.Params.lean ====
/- The weights at a grid point are the arguments. -/
module

public import proofs.«01_k».proof.Proof.Entries
public import proofs.«01_k».proof.Proof.KernelSimp
public import Idealize.ShloMosaic.Lib.Pipeline.ValueKit.Point

@[expose] public section

noncomputable section

namespace Cert.Proof.Params

open Cert.KernelIdeal Cert.KernelIdeal.Gen Idealize.ShloMosaic Idealize.ShloMosaic.TcCoe Idealize.SL.Sem Cert.Proof.IdealRun Cert.Proof.Body Cert.Proof.Blocks Cert.Proof.Arrays Cert.Proof.Spec Cert.Proof.KernelSimp

/-- The weights from the nineteen arrays that hold them. -/
def parFrom (a1 : Vec Ideal S3x64 .f32) (a2 : Vec Ideal S64 .f32) (a3 : Vec Ideal S64x64 .f32) (a4 : Vec Ideal S64 .f32) (a5 : Vec Ideal S64x64 .f32) (a6 : Vec Ideal S64 .f32) (a7 : Vec Ideal S64x128 .f32) (a8 : Vec Ideal S128 .f32) (a9 : Vec Ideal S128x128 .f32) (a10 : Vec Ideal S128 .f32) (a11 : Vec Ideal S128x256 .f32) (a12 : Vec Ideal S256 .f32) (a13 : Vec Ideal S256x256 .f32) (a14 : Vec Ideal S256 .f32) (a15 : Vec Ideal S256x256 .f32) (a16 : Vec Ideal S256 .f32) (a17 : Vec Ideal S256x48 .f32) (a18 : Vec Ideal S48 .f32) (a19 : Vec Ideal S_ .f32) : Par where
  w0 := fun i j => a1 (ix2 i j)
  b0 := fun j => a2 (ix1 j)
  w1 := fun i j => a3 (ix2 i j)
  b1 := fun j => a4 (ix1 j)
  w2 := fun i j => a5 (ix2 i j)
  b2 := fun j => a6 (ix1 j)
  w3 := fun i j => a7 (ix2 i j)
  b3 := fun j => a8 (ix1 j)
  w4 := fun i j => a9 (ix2 i j)
  b4 := fun j => a10 (ix1 j)
  v0 := fun i j => a11 (ix2 i j)
  c0 := fun j => a12 (ix1 j)
  v1 := fun i j => a13 (ix2 i j)
  c1 := fun j => a14 (ix1 j)
  v2 := fun i j => a15 (ix2 i j)
  c2 := fun j => a16 (ix1 j)
  v3 := fun i j => a17 (ix2 i j)
  c3 := fun j => a18 (ix1 j)
  sigma := a19 ix0

variable (m : (ℓ : Loc nD τ sig) → Buf (Elt Ideal) ℓ) (c : Dev nD) (t : Fin cfg0.N)

/-- The weights as the kernel finds them. -/
def parOf : Par := parFrom (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- Every weight is one block, the whole array, at every grid point. -/
theorem idx : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] :=
  fun _ => ⟨rfl, rfl, rfl, rfl, rfl, rfl, rfl, rfl, rfl, rfl, rfl, rfl, rfl, rfl, rfl, rfl, rfl, rfl, rfl, rfl, rfl, rfl, rfl⟩

/-- A transposed array at an index. -/
theorem turned {a b : ℕ} (x : Vec Ideal ⟨2, ![a, b]⟩ .f32) (h : Shape.Transposes ⟨2, ![a, b]⟩ [1, 0] ⟨2, ![b, a]⟩) (i : Fin b) (k : Fin a) :
    transpose ⟨2, ![b, a]⟩ [1, 0] x h (ix2 i k) = x (ix2 k i) := by
  show x _ = x _
  congr 1
  funext c
  match c with
  | ⟨0, _⟩ => rfl
  | ⟨1, _⟩ => rfl

/-- A vector as a column, at an index. -/
theorem column {a : ℕ} (x : Vec Ideal ⟨1, ![a]⟩ .f32) (h : Shape.ShapeCasts ⟨1, ![a]⟩ ⟨2, ![a, 1]⟩) (i : Fin a) :
    shapeCast ⟨2, ![a, 1]⟩ x h (ix2 i (0 : Fin 1)) = x (ix1 i) :=
  congrArg x (Shape.reshapeEquiv_eq_of_vals h (ix2 i (0 : Fin 1)) (ix1 i) i.val (i.val * 1 + 0) (rowMajor_val1 _) (rowMajor_val2 _ 1 rfl) (by omega))

/-- The last layer's weights of the first coordinate. -/
theorem vx_at (o : Fin 16) (k : Fin 256) : (loads m c t).wxt (ix2 o k) = (m ((c : Thread nD τ).loc main_arg17)) (ix2 k ⟨o.val * 3 + (0 : Fin 3).val, by omega⟩) := by
  unfold Loads.wxt loads
  pointwise [k0_pay21]
  have e : V m c main_call0_v23 (ix2 o k) = (m ((c : Thread nD τ).loc main_arg17)) (ix2 k ⟨o.val * 3 + (0 : Fin 3).val, by omega⟩) := by
    entry_read
    show transpose S16x256 [1, 0] (shapeCast S256x16 (extractStridedSlice S256x16x1 ![0, 0, 0] (shapeCast S256x16x3 (m ((c : Thread nD τ).loc main_arg17)) shapeCasts_S256x48_S256x16x3) slices_S256x16x3_S256x16x1_0_0_0) shapeCasts_S256x16x1_S256x16) transposes_S256x16_S16x256_1_0 (ix2 o k) = _
    pointwise
  refine Eq.trans ?_ e
  blk_ext! [iblk, idx t]

/-- The last layer's weights of the second coordinate. -/
theorem vy_at (o : Fin 16) (k : Fin 256) : (loads m c t).wyt (ix2 o k) = (m ((c : Thread nD τ).loc main_arg17)) (ix2 k ⟨o.val * 3 + (1 : Fin 3).val, by omega⟩) := by
  unfold Loads.wyt loads
  pointwise [k0_pay22]
  have e : V m c main_call0_v26 (ix2 o k) = (m ((c : Thread nD τ).loc main_arg17)) (ix2 k ⟨o.val * 3 + (1 : Fin 3).val, by omega⟩) := by
    entry_read
    show transpose S16x256 [1, 0] (shapeCast S256x16 (extractStridedSlice S256x16x1 ![0, 0, 1] (shapeCast S256x16x3 (m ((c : Thread nD τ).loc main_arg17)) shapeCasts_S256x48_S256x16x3) slices_S256x16x3_S256x16x1_0_0_1) shapeCasts_S256x16x1_S256x16) transposes_S256x16_S16x256_1_0 (ix2 o k) = _
    pointwise
  refine Eq.trans ?_ e
  blk_ext! [iblk, idx t]

/-- The last layer's weights of the third coordinate. -/
theorem vz_at (o : Fin 16) (k : Fin 256) : (loads m c t).wzt (ix2 o k) = (m ((c : Thread nD τ).loc main_arg17)) (ix2 k ⟨o.val * 3 + (2 : Fin 3).val, by omega⟩) := by
  unfold Loads.wzt loads
  pointwise [k0_pay23]
  have e : V m c main_call0_v29 (ix2 o k) = (m ((c : Thread nD τ).loc main_arg17)) (ix2 k ⟨o.val * 3 + (2 : Fin 3).val, by omega⟩) := by
    entry_read
    show transpose S16x256 [1, 0] (shapeCast S256x16 (extractStridedSlice S256x16x1 ![0, 0, 2] (shapeCast S256x16x3 (m ((c : Thread nD τ).loc main_arg17)) shapeCasts_S256x48_S256x16x3) slices_S256x16x3_S256x16x1_0_0_2) shapeCasts_S256x16x1_S256x16) transposes_S256x16_S16x256_1_0 (ix2 o k) = _
    pointwise
  refine Eq.trans ?_ e
  blk_ext! [iblk, idx t]

/-- The last layer's biases of the first coordinate. -/
theorem cx_at (o : Fin 16) : (loads m c t).bxc (ix2 o (0 : Fin 1)) = (m ((c : Thread nD τ).loc main_arg18)) (ix1 ⟨o.val * 3 + (0 : Fin 3).val, by omega⟩) := by
  unfold Loads.bxc loads
  pointwise [k0_pay24]
  have e : V m c main_call0_v30 (ix2 o (0 : Fin 1)) = (m ((c : Thread nD τ).loc main_arg18)) (ix1 ⟨o.val * 3 + (0 : Fin 3).val, by omega⟩) := by
    entry_read
    show extractStridedSlice S16x1 ![0, 0] (shapeCast S16x3 (m ((c : Thread nD τ).loc main_arg18)) shapeCasts_S48_S16x3) slices_S16x3_S16x1_0_0 (ix2 o (0 : Fin 1)) = _
    pointwise
  refine Eq.trans ?_ e
  blk_ext! [iblk, idx t]

/-- The last layer's biases of the second coordinate. -/
theorem cy_at (o : Fin 16) : (loads m c t).byc (ix2 o (0 : Fin 1)) = (m ((c : Thread nD τ).loc main_arg18)) (ix1 ⟨o.val * 3 + (1 : Fin 3).val, by omega⟩) := by
  unfold Loads.byc loads
  pointwise [k0_pay25]
  have e : V m c main_call0_v31 (ix2 o (0 : Fin 1)) = (m ((c : Thread nD τ).loc main_arg18)) (ix1 ⟨o.val * 3 + (1 : Fin 3).val, by omega⟩) := by
    entry_read
    show extractStridedSlice S16x1 ![0, 1] (shapeCast S16x3 (m ((c : Thread nD τ).loc main_arg18)) shapeCasts_S48_S16x3) slices_S16x3_S16x1_0_1 (ix2 o (0 : Fin 1)) = _
    pointwise
  refine Eq.trans ?_ e
  blk_ext! [iblk, idx t]

/-- The last layer's biases of the third coordinate. -/
theorem cz_at (o : Fin 16) : (loads m c t).bzc (ix2 o (0 : Fin 1)) = (m ((c : Thread nD τ).loc main_arg18)) (ix1 ⟨o.val * 3 + (2 : Fin 3).val, by omega⟩) := by
  unfold Loads.bzc loads
  pointwise [k0_pay26]
  have e : V m c main_call0_v32 (ix2 o (0 : Fin 1)) = (m ((c : Thread nD τ).loc main_arg18)) (ix1 ⟨o.val * 3 + (2 : Fin 3).val, by omega⟩) := by
    entry_read
    show extractStridedSlice S16x1 ![0, 2] (shapeCast S16x3 (m ((c : Thread nD τ).loc main_arg18)) shapeCasts_S48_S16x3) slices_S16x3_S16x1_0_2 (ix2 o (0 : Fin 1)) = _
    pointwise
  refine Eq.trans ?_ e
  blk_ext! [iblk, idx t]

set_option maxHeartbeats 4000000 in
/-- The blocks of the weights at a grid point, as the layers read them. -/
theorem weights : Weights (loads m c t) (parOf m c) := by
  constructor
  case w0 | w1 | w2 | w3 | w4 | v0 | v1 | v2 =>
    intro i k
    simp only [Loads.w0t, Loads.w1t, Loads.w2t, Loads.w3t, Loads.w4t, Loads.v0t, Loads.v1t, Loads.v2t, Loads.v2load, loads]
    pointwise [k0_pay5, k0_pay7, k0_pay9, k0_pay11, k0_pay13, k0_pay15, k0_pay17, k0_pay19]
    blk_simp [iblk]
    refine (congrArg (V m c _) (?_ : _ = ix2 i k)).trans ?_
    · funext a
      match a with
      | ⟨0, _⟩ =>
        apply Fin.ext
        blk_simp [idx t]
      | ⟨1, _⟩ =>
        apply Fin.ext
        blk_simp [idx t]
    · entry_read
      exact turned _ _ _ _
  case b0 | b1 | b2 | b3 | b4 | c0 | c1 | c2 =>
    intro i
    simp only [Loads.b0c, Loads.b1c, Loads.b2c, Loads.b3c, Loads.b4c, Loads.c0c, Loads.c1c, Loads.c2c, loads]
    pointwise [k0_pay6, k0_pay8, k0_pay10, k0_pay12, k0_pay14, k0_pay16, k0_pay18, k0_pay20]
    blk_simp [iblk]
    refine (congrArg (V m c _) (?_ : _ = ix2 i (0 : Fin 1))).trans ?_
    · funext a
      match a with
      | ⟨0, _⟩ =>
        apply Fin.ext
        blk_simp [idx t]
      | ⟨1, _⟩ =>
        apply Fin.ext
        blk_simp [idx t]
    · entry_read
      exact column _ _ _
  case vx => exact vx_at m c t
  case vy => exact vy_at m c t
  case vz => exact vz_at m c t
  case cx => exact cx_at m c t
  case cy => exact cy_at m c t
  case cz => exact cz_at m c t

end Cert.Proof.Params

end
-- ==== Proof.RefSeeds.lean ====
/- The seeds of the reference, read at an index. -/
module

public import proofs.«01_k».proof.Proof.Spec
public import proofs.«01_k».proof.Proof.Gen.ReferenceIdeal.Run

@[expose] public section

noncomputable section

namespace Cert.Proof.RefSeeds

open Idealize.ShloMosaic Cert.ReferenceIdeal Cert.ReferenceIdeal.Gen Cert.ReferenceIdeal.Value Cert.Proof.Spec

/-- A position clamped to an axis of `m` entries. -/
def clampTo (m : ℕ) [NeZero m] (w : BitVec 32) : Fin m :=
  ⟨min w.toInt.toNat (m - 1), by have := NeZero.pos m; omega⟩

theorem clampTo_ofNat (m : ℕ) [NeZero m] (n : Fin m) (hm : m ≤ 4096) : clampTo m (BitVec.ofNat 32 n.val) = n := by
  have hn := n.isLt
  have : (BitVec.ofNat 32 n.val).toInt = (n.val : ℤ) := by
    rw [BitVec.toInt_eq_toNat_cond, BitVec.toNat_ofNat, Nat.mod_eq_of_lt (by omega), if_pos (by omega)]
  refine Fin.ext ?_
  show min (BitVec.ofNat 32 n.val).toInt.toNat (m - 1) = n.val
  rw [this]
  omega

/-- A position that isn't negative is taken as it is. -/
theorem wrap_ofNat (n : ℕ) (hn : n < 4096) (w : BitVec 32) :
    Scalar.select (IntOp.cmpi .slt (BitVec.ofNat 32 n) 0#32) (IntOp.addi (BitVec.ofNat 32 n) w) (BitVec.ofNat 32 n) = BitVec.ofNat 32 n := by
  have : (BitVec.ofNat 32 n).slt 0#32 = false := by
    rw [BitVec.slt_eq_decide, BitVec.toInt_eq_toNat_cond, BitVec.toNat_ofNat, Nat.mod_eq_of_lt (by omega), if_pos (by omega)]
    simp
  simp [IntOp.cmpi, this, Scalar.select]

theorem gather1 (x : FVec Ideal S64x2048x3 .f32) (i : IVec S64x2 32) (b : Fin 64) (k : Fin 3) :
    Host.gather gather_S64x2048x3_S64x2_S64x3_1_01_n_n_01_1_113 x i (ix2 b k)
      = x (ix3 (clampTo 64 (i (ix2 b 0))) (clampTo 2048 (i (ix2 b 1))) k) := by
  unfold Host.gather
  congr 1
  funext a
  have hs (j) : gather_S64x2048x3_S64x2_S64x3_1_01_n_n_01_1_113.siIdx (ix2 b k) j = ix2 b j := by
    funext c
    match c with
    | ⟨0, _⟩ => rfl
    | ⟨1, _⟩ => rfl
  match a with
  | ⟨0, _⟩ =>
    refine Fin.ext ?_
    show min (i (gather_S64x2048x3_S64x2_S64x3_1_01_n_n_01_1_113.siIdx (ix2 b k) ⟨0, by decide⟩)).toInt.toNat 63 + 0 + 0 = _
    rw [hs]
    rfl
  | ⟨1, _⟩ =>
    refine Fin.ext ?_
    show min (i (gather_S64x2048x3_S64x2_S64x3_1_01_n_n_01_1_113.siIdx (ix2 b k) ⟨1, by decide⟩)).toInt.toNat 2047 + 0 + 0 = _
    rw [hs]
    rfl
  | ⟨2, _⟩ =>
    refine Fin.ext ?_
    show 0 + 0 + k.val = _
    simp [ix3]

theorem gather2 (x : FVec Ideal S64x2048x3 .f32) (i : IVec S64x4x2 32) (b : Fin 64) (p : Fin 4) (k : Fin 3) :
    Host.gather gather_S64x2048x3_S64x4x2_S64x4x3_2_01_n_n_01_2_113 x i (ix3 b p k)
      = x (ix3 (clampTo 64 (i (ix3 b p 0))) (clampTo 2048 (i (ix3 b p 1))) k) := by
  unfold Host.gather
  congr 1
  funext a
  have hs (j) : gather_S64x2048x3_S64x4x2_S64x4x3_2_01_n_n_01_2_113.siIdx (ix3 b p k) j = ix3 b p j := by
    funext c
    match c with
    | ⟨0, _⟩ => rfl
    | ⟨1, _⟩ => rfl
    | ⟨2, _⟩ => rfl
  match a with
  | ⟨0, _⟩ =>
    refine Fin.ext ?_
    show min (i (gather_S64x2048x3_S64x4x2_S64x4x3_2_01_n_n_01_2_113.siIdx (ix3 b p k) ⟨0, by decide⟩)).toInt.toNat 63 + 0 + 0 = _
    rw [hs]
    rfl
  | ⟨1, _⟩ =>
    refine Fin.ext ?_
    show min (i (gather_S64x2048x3_S64x4x2_S64x4x3_2_01_n_n_01_2_113.siIdx (ix3 b p k) ⟨1, by decide⟩)).toInt.toNat 2047 + 0 + 0 = _
    rw [hs]
    rfl
  | ⟨2, _⟩ =>
    refine Fin.ext ?_
    show 0 + 0 + k.val = _
    simp [ix3]

/-- The position of the greatest entry of a row. -/
theorem topk1 (x : FVec Ideal S64x2048 .f32) (b : Fin 64) (u : Fin 1) :
    (Host.topK S64x1 1 (FloatOps.cmpfTotal .gt) x sliceFits_S64x2048_S64x1).2 (ix2 b u)
      = BitVec.ofNat 32 (firstMax fun n => x (ix2 b n)).val := by
  pointwise [Host.topK, Host.sort2]
  have h (k : Fin 2048) : Shape.Idx.along (s := S64x2048) (ix2 b 0) 1 k = ix2 b k := by
    funext c
    match c with
    | ⟨0, _⟩ => rfl
    | ⟨1, _⟩ => rfl
  simp only [h]
  rfl

variable (V : Valuation τ sig (Elt Ideal))

/-- The cloud of one batch entry. -/
def cloud (b : Fin 64) : Cloud := fun n c => V (Proc.devRef .tc main_arg0) (ix3 b c n)

theorem v0_at (b : Fin 64) (n : Fin 2048) (c : Fin 3) : res_main_v0 V (ix3 b n c) = cloud V b n c := by
  unfold res_main_v0
  pointwise
  rfl

theorem v1_at (b : Fin 64) : res_main_v1 V (ix1 b) = BitVec.ofNat 32 b.val := by
  unfold res_main_v1
  pointwise

theorem v2_at (b : Fin 64) : res_main_v2 V (ix1 b) = BitVec.ofNat 32 (0 : Fin 2048).val := by
  unfold res_main_v2
  pointwise

theorem v20_at (b : Fin 64) (n : Fin 2048) (c : Fin 3) : res_main_v20 V (ix3 b n c) = cloud V b n c - cloud V b 0 c := by
  unfold res_main_v20
  pointwise [gather1]
  simp only [v0_at, v1_at, v2_at]
  rw [wrap_ofNat _ (by omega), wrap_ofNat _ (by omega), clampTo_ofNat _ _ (by omega), clampTo_ofNat _ _ (by omega)]

theorem v23_at (b : Fin 64) (n : Fin 2048) : res_main_v23 V (ix2 b n) = run1 (cloud V b) n := by
  unfold res_main_v23
  pointwise
  simp only [v20_at]
  rfl

theorem v24_at (b : Fin 64) : res_main_v24 V (ix1 b) = BitVec.ofNat 32 (idx1 (cloud V b)).val := by
  unfold res_main_v24
  pointwise [topk1]
  simp only [v23_at]
  rfl

theorem v41_at (b : Fin 64) (n : Fin 2048) (c : Fin 3) :
    res_main_v41 V (ix3 b n c) = cloud V b n c - cloud V b (idx1 (cloud V b)) c := by
  unfold res_main_v41
  pointwise [gather1]
  simp only [v0_at, v1_at, v24_at]
  rw [wrap_ofNat _ (by omega), wrap_ofNat _ (by omega), clampTo_ofNat _ _ (by omega), clampTo_ofNat _ _ (by omega)]

theorem v44_at (b : Fin 64) (n : Fin 2048) : res_main_v44 V (ix2 b n) = run2 (cloud V b) n := by
  unfold res_main_v44
  pointwise
  simp only [v41_at, v23_at]
  rfl

theorem v45_at (b : Fin 64) : res_main_v45 V (ix1 b) = BitVec.ofNat 32 (idx2 (cloud V b)).val := by
  unfold res_main_v45
  pointwise [topk1]
  simp only [v44_at]
  rfl

theorem v62_at (b : Fin 64) (n : Fin 2048) (c : Fin 3) :
    res_main_v62 V (ix3 b n c) = cloud V b n c - cloud V b (idx2 (cloud V b)) c := by
  unfold res_main_v62
  pointwise [gather1]
  simp only [v0_at, v1_at, v45_at]
  rw [wrap_ofNat _ (by omega), wrap_ofNat _ (by omega), clampTo_ofNat _ _ (by omega), clampTo_ofNat _ _ (by omega)]

theorem v65_at (b : Fin 64) (n : Fin 2048) : res_main_v65 V (ix2 b n) = run3 (cloud V b) n := by
  unfold res_main_v65
  pointwise
  simp only [v62_at, v44_at]
  rfl

theorem v66_at (b : Fin 64) : res_main_v66 V (ix1 b) = BitVec.ofNat 32 (idx3 (cloud V b)).val := by
  unfold res_main_v66
  pointwise [topk1]
  simp only [v65_at]
  rfl

/-- The table of the seeds' positions. -/
theorem v85_at (b : Fin 64) (p : Fin 4) : res_main_v85 V (ix2 b p) = BitVec.ofNat 32 (seed (cloud V b) p).val := by
  unfold res_main_v85
  pointwise
  simp only [v2_at, v24_at, v45_at, v66_at]
  obtain rfl | rfl | rfl | rfl : p = 0 ∨ p = 1 ∨ p = 2 ∨ p = 3 := by omega
  · simp [seed]
  · simp [seed]
  · simp [seed]
  · simp [seed]

theorem v87_at (b : Fin 64) : res_main_v87 V (ix2 b 0) = BitVec.ofNat 32 b.val := by
  unfold res_main_v87 res_main_v86
  pointwise

/-- The seeds. -/
theorem seeds_at (b : Fin 64) (p : Fin 4) (c : Fin 3) : (Host.gather gather_S64x2048x3_S64x4x2_S64x4x3_2_01_n_n_01_2_113 (res_main_v0 V) (concatenate S64x4x2 2 [⟨S64x4x1, (broadcastInDim S64x4x1 ![0, 1] bcast_S64x4_S64x4x1_0_1 (broadcastInDim S64x4 ![0, 1] bcast_S64x1_S64x4_0_1 (select (cmpi .slt (res_main_v87 V) (broadcastInDim S64x1 ![] bcast_S_S64x1 (constantI S_ 32 0#32))) (addi (res_main_v87 V) (broadcastInDim S64x1 ![] bcast_S_S64x1 (constantI S_ 32 64#32))) (res_main_v87 V))))⟩, ⟨S64x4x1, (broadcastInDim S64x4x1 ![0, 1] bcast_S64x4_S64x4x1_0_1 (select (cmpi .slt (res_main_v85 V) (broadcastInDim S64x4 ![] bcast_S_S64x4 (constantI S_ 32 0#32))) (addi (res_main_v85 V) (broadcastInDim S64x4 ![] bcast_S_S64x4 (constantI S_ 32 2048#32))) (res_main_v85 V)))⟩] concatenates_S64x4x1_S64x4x1_S64x4x2_d2) : FVec Ideal S64x4x3 .f32) (ix3 b p c)
    = cloud V b (seed (cloud V b) p) c := by
  pointwise [gather2]
  simp only [v0_at, v87_at, v85_at]
  rw [wrap_ofNat _ (by omega), wrap_ofNat _ (by omega), clampTo_ofNat _ _ (by omega), clampTo_ofNat _ _ (by omega)]

/-- The squared distances to the seeds, negated. -/
theorem v107_at (b : Fin 64) (p : Fin 4) (n : Fin 2048) (c : Fin 3) :
    res_main_v107 V (ix4 b p n c) = cloud V b (seed (cloud V b) p) c - cloud V b n c := by
  unfold res_main_v107
  pointwise [gather2]
  simp only [v0_at, v87_at, v85_at]
  rw [wrap_ofNat _ (by omega), wrap_ofNat _ (by omega), clampTo_ofNat _ _ (by omega), clampTo_ofNat _ _ (by omega)]

theorem v110_at (b : Fin 64) (p : Fin 4) (n : Fin 2048) : res_main_v110 V (ix3 b p n) = -d2 (cloud V b) p n := by
  unfold res_main_v110
  pointwise
  simp only [v107_at]
  rfl

end Cert.Proof.RefSeeds

end
-- ==== Proof.Precond.lean ====
/- The precondition, read at a cloud and a seed: the 256 nearest points are clear of the others. -/
module

public import proofs.«01_k».proof.Pre_patches_apart
public import proofs.«01_k».proof.Proof.RefSeeds
public import proofs.«01_k».proof.Proof.KernelSearch

@[expose] public section

noncomputable section

namespace Cert.Proof.Precond

open Idealize.ShloMosaic Cert.Proof.Spec Cert.Proof.RefSeeds Cert.Proof.Search Cert.Proof.KernelSearch

/-- The shape relations of the precondition's operations. -/
instance facts : Cert.Pre_patches_apart.Facts where
  transposes_S64x3x2048_S64x2048x3_0_2_1 := Cert.ReferenceIdeal.Gen.transposes_S64x3x2048_S64x2048x3_0_2_1
  bcast_S_S64 := Cert.ReferenceIdeal.Gen.bcast_S_S64
  bcast_S_S64x2048 := Cert.ReferenceIdeal.Gen.bcast_S_S64x2048
  bcast_S64_S64x1_0 := Cert.ReferenceIdeal.Gen.bcast_S64_S64x1_0
  concatenates_S64x1_S64x1_S64x2_d1 := Cert.ReferenceIdeal.Gen.concatenates_S64x1_S64x1_S64x2_d1
  bcast_S64x3_S64x1x3_0_2 := Cert.ReferenceIdeal.Gen.bcast_S64x3_S64x1x3_0_2
  bcast_S64x1x3_S64x2048x3_0_1_2 := Cert.ReferenceIdeal.Gen.bcast_S64x1x3_S64x2048x3_0_1_2
  reducesTo_S64x2048x3_S64x2048_d2 := Cert.ReferenceIdeal.Gen.reducesTo_S64x2048x3_S64x2048_d2
  h_S_ := Cert.ReferenceIdeal.Gen.h_S_
  sliceFits_S64x2048_S64x1 := Cert.ReferenceIdeal.Gen.sliceFits_S64x2048_S64x1
  shapeCasts_S64x1_S64 := Cert.ReferenceIdeal.Gen.shapeCasts_S64x1_S64
  concatenates_S64x1_S64x1_S64x1_S64x1_S64x4_d1 := Cert.ReferenceIdeal.Gen.concatenates_S64x1_S64x1_S64x1_S64x1_S64x4_d1
  bcast_S_S64x1 := Cert.ReferenceIdeal.Gen.bcast_S_S64x1
  bcast_S_S64x4 := Cert.ReferenceIdeal.Gen.bcast_S_S64x4
  bcast_S64x1_S64x4_0_1 := Cert.ReferenceIdeal.Gen.bcast_S64x1_S64x4_0_1
  bcast_S64x4_S64x4x1_0_1 := Cert.ReferenceIdeal.Gen.bcast_S64x4_S64x4x1_0_1
  concatenates_S64x4x1_S64x4x1_S64x4x2_d2 := Cert.ReferenceIdeal.Gen.concatenates_S64x4x1_S64x4x1_S64x4x2_d2
  bcast_S64x4x3_S64x4x1x3_0_1_3 := Cert.ReferenceIdeal.Gen.bcast_S64x4x3_S64x4x1x3_0_1_3
  bcast_S64x2048x3_S64x1x2048x3_0_2_3 := Cert.ReferenceIdeal.Gen.bcast_S64x2048x3_S64x1x2048x3_0_2_3
  bcast_S64x4x1x3_S64x4x2048x3_0_1_2_3 := Cert.ReferenceIdeal.Gen.bcast_S64x4x1x3_S64x4x2048x3_0_1_2_3
  bcast_S64x1x2048x3_S64x4x2048x3_0_1_2_3 := Cert.ReferenceIdeal.Gen.bcast_S64x1x2048x3_S64x4x2048x3_0_1_2_3
  reducesTo_S64x4x2048x3_S64x4x2048_d3 := Cert.ReferenceIdeal.Gen.reducesTo_S64x4x2048x3_S64x4x2048_d3
  sliceFits_S64x4x2048_S64x4x256 := Cert.ReferenceIdeal.Gen.sliceFits_S64x4x2048_S64x4x256
  slices_S64x4x256_S64x4x1_0_0_255 := by decide
  reducesTo_S64x4x2048_S64x4_d2 := by decide
  bcast_S_S64x4x1 := by decide
  bcast_S64x4x1_S64x4x2048_0_1_2 := by decide
  gather_S64x2048x3_S64x2_S64x3_1_01_n_n_01_1_113_wf := Cert.ReferenceIdeal.Gen.gather_S64x2048x3_S64x2_S64x3_1_01_n_n_01_1_113_wf
  gather_S64x2048x3_S64x4x2_S64x4x3_2_01_n_n_01_2_113_wf := Cert.ReferenceIdeal.Gen.gather_S64x2048x3_S64x4x2_S64x4x3_2_01_n_n_01_2_113_wf

open Cert.Pre_patches_apart Cert.ReferenceIdeal.Value

variable (V : Valuation Cert.ReferenceIdeal.τ Cert.ReferenceIdeal.sig (Elt Ideal))

/-- The squared distances to the seeds. -/
def dist : FVec Ideal S64x4x2048 .f32 :=
  Host.reduceAdd (mulf (res_main_v107 V) (res_main_v107 V)) (constant S_ .f32 0x00000000#32) Facts.reducesTo_S64x4x2048x3_S64x4x2048_d3 Facts.h_S_

/-- The squared distances at an index. -/
theorem dist_at (b : Fin 64) (p : Fin 4) (n : Fin 2048) : dist V (ix3 b p n) = d2 (cloud V b) p n := by
  unfold dist
  pointwise
  simp only [v107_at]
  rfl

/-- The same chain of operations as in the reference, up to the squared distances. -/
theorem chain (a1 : FVec Ideal S3x64 .f32) (a2 : FVec Ideal S64 .f32) (a3 : FVec Ideal S64x64 .f32) (a4 : FVec Ideal S64 .f32) (a5 : FVec Ideal S64x64 .f32) (a6 : FVec Ideal S64 .f32) (a7 : FVec Ideal S64x128 .f32) (a8 : FVec Ideal S128 .f32) (a9 : FVec Ideal S128x128 .f32) (a10 : FVec Ideal S128 .f32) (a11 : FVec Ideal S128x256 .f32) (a12 : FVec Ideal S256 .f32) (a13 : FVec Ideal S256x256 .f32) (a14 : FVec Ideal S256 .f32) (a15 : FVec Ideal S256x256 .f32) (a16 : FVec Ideal S256 .f32) (a17 : FVec Ideal S256x48 .f32) (a18 : FVec Ideal S48 .f32) (a19 : FVec Ideal S_ .f32) :
    Cert.Pre_patches_apart.fn (F := Ideal) (V (Proc.devRef .tc Cert.ReferenceIdeal.main_arg0)) a1 a2 a3 a4 a5 a6 a7 a8 a9 a10 a11 a12 a13 a14 a15 a16 a17 a18 a19
      = fn_part6 (F := Ideal) (dist V) (Host.negf (dist V)) (Host.topK S64x4x256 2 (FloatOps.cmpfTotal .gt) (Host.negf (dist V)) Facts.sliceFits_S64x4x2048_S64x4x256).1 := by
  rfl

/-- The greatest entries of a row. -/
theorem topvals (x : FVec Ideal S64x4x2048 .f32) (b : Fin 64) (p : Fin 4) (k : Fin 256) :
    (Host.topK S64x4x256 2 (FloatOps.cmpfTotal .gt) x Facts.sliceFits_S64x4x2048_S64x4x256).1 (ix3 b p k)
      = x (ix3 b p (top (fun n => x (ix3 b p n)) ⟨k.val, by omega⟩)) := by
  pointwise [Host.topK, Host.sort2]
  have h (n : Fin 2048) : Shape.Idx.along (s := S64x4x2048) (ix3 b p ⟨k.val, by omega⟩) 2 n = ix3 b p n := by
    funext c
    match c with
    | ⟨0, _⟩ => rfl
    | ⟨1, _⟩ => rfl
    | ⟨2, _⟩ => rfl
  simp only [h]
  rfl

/-- The bisection's resolution, as a fraction. -/
theorem tiny : Ideal.ofBits .f32 662700032#32 = ((1 / 281474976710656 : ℝ) : EReal) := by
  simp [Ideal.ofBits, Ideal.ieee]; rw [← EReal.coe_mul]; norm_num

/-- The number of entries up to a bound, as the sum of their flags. -/
theorem sum_bits {n : ℕ} (f : Fin n → EReal) (t : EReal) :
    ∑ i, (FloatOps.uitofp (F := Ideal) .f32 (BitVec.ofBool (decide (f i ≤ t))) : EReal) = (count f t : EReal) := by
  have h : ∀ i, (FloatOps.uitofp (F := Ideal) .f32 (BitVec.ofBool (decide (f i ≤ t))) : EReal) = if f i ≤ t then 1 else 0 := by
    intro i
    by_cases a : f i ≤ t
    · simp only [a, decide_true, if_true]
      show (((1 : ℕ) : ℝ) : EReal) = 1
      simp
    · simp only [a, decide_false, if_false]
      show (((0 : ℕ) : ℝ) : EReal) = 0
      simp
  simp only [h, Search.count, Finset.sum_boole]

/-- What the last operations of the precondition say, from the squared distances on. -/
theorem tail (D : FVec Ideal S64x4x2048 .f32) (b : Fin 64) (p : Fin 4)
    (h : fn_part6 (F := Ideal) D (Host.negf D) (Host.topK S64x4x256 2 (FloatOps.cmpfTotal .gt) (Host.negf D) Facts.sliceFits_S64x4x2048_S64x4x256).1 (ix2 b p) = 1#1) :
    count (fun n => D (ix3 b p n)) (kth (fun n => D (ix3 b p n)) last + margin (fun n => D (ix3 b p n))) = 256 := by
  unfold fn_part6 at h
  pointwise at h
  rw [topvals, bottom, tiny, count256, sum_bits (fun n => D (ix3 b p n))] at h
  have e (a : Bool) (g : BitVec.ofBool a = 1#1) : a = true := by cases a <;> simp_all
  have h' := of_decide_eq_true (e _ h)
  have n : -(Host.negf D (ix3 b p (top (fun n => Host.negf D (ix3 b p n)) ⟨(255 : Fin 256).val, by omega⟩)) : EReal) = kth (fun n => D (ix3 b p n)) last :=
    neg_neg _
  rw [n] at h'
  exact_mod_cast h'

/-- What the precondition says of one seed. -/
theorem apart {x : FVec Ideal S64x3x2048 .f32} {a1 : FVec Ideal S3x64 .f32} {a2 : FVec Ideal S64 .f32} {a3 : FVec Ideal S64x64 .f32} {a4 : FVec Ideal S64 .f32} {a5 : FVec Ideal S64x64 .f32} {a6 : FVec Ideal S64 .f32} {a7 : FVec Ideal S64x128 .f32} {a8 : FVec Ideal S128 .f32} {a9 : FVec Ideal S128x128 .f32} {a10 : FVec Ideal S128 .f32} {a11 : FVec Ideal S128x256 .f32} {a12 : FVec Ideal S256 .f32} {a13 : FVec Ideal S256x256 .f32} {a14 : FVec Ideal S256 .f32} {a15 : FVec Ideal S256x256 .f32} {a16 : FVec Ideal S256 .f32} {a17 : FVec Ideal S256x48 .f32} {a18 : FVec Ideal S48 .f32} {a19 : FVec Ideal S_ .f32} (hx : V (Proc.devRef .tc Cert.ReferenceIdeal.main_arg0) = x)
    (h : Cert.Pre_patches_apart.fn (F := Ideal) x a1 a2 a3 a4 a5 a6 a7 a8 a9 a10 a11 a12 a13 a14 a15 a16 a17 a18 a19 = fun _ => 1#1) (b : Fin 64) (p : Fin 4) : Apart (cloud V b) p := by
  subst hx
  have t := tail (dist V) b p ((congrFun (chain V a1 a2 a3 a4 a5 a6 a7 a8 a9 a10 a11 a12 a13 a14 a15 a16 a17 a18 a19).symm _).trans (congrFun h (ix2 b p)))
  simp only [dist_at] at t
  exact t

end Cert.Proof.Precond

end
-- ==== Proof.RefSimp.lean ====
/- The patches and the simplified points of the reference, read at an index. -/
module

public import proofs.«01_k».proof.Proof.RefSeeds

@[expose] public section

noncomputable section

namespace Cert.Proof.RefSimp

open Idealize.ShloMosaic Cert.ReferenceIdeal Cert.ReferenceIdeal.Gen Cert.ReferenceIdeal.Value Cert.Proof.Spec Cert.Proof.RefSeeds

theorem gather3 (x : FVec Ideal S64x2048x3 .f32) (i : IVec S64x4x256x2 32) (b : Fin 64) (p : Fin 4) (n : Fin 256) (k : Fin 3) :
    Host.gather gather_S64x2048x3_S64x4x256x2_S64x4x256x3_3_01_n_n_01_3_113 x i (ix4 b p n k)
      = x (ix3 (clampTo 64 (i (ix4 b p n 0))) (clampTo 2048 (i (ix4 b p n 1))) k) := by
  unfold Host.gather
  congr 1
  funext a
  have hs (j) : gather_S64x2048x3_S64x4x256x2_S64x4x256x3_3_01_n_n_01_3_113.siIdx (ix4 b p n k) j = ix4 b p n j := by
    funext c
    match c with
    | ⟨0, _⟩ => rfl
    | ⟨1, _⟩ => rfl
    | ⟨2, _⟩ => rfl
    | ⟨3, _⟩ => rfl
  match a with
  | ⟨0, _⟩ =>
    refine Fin.ext ?_
    show min (i (gather_S64x2048x3_S64x4x256x2_S64x4x256x3_3_01_n_n_01_3_113.siIdx (ix4 b p n k) ⟨0, by decide⟩)).toInt.toNat 63 + 0 + 0 = _
    rw [hs]
    rfl
  | ⟨1, _⟩ =>
    refine Fin.ext ?_
    show min (i (gather_S64x2048x3_S64x4x256x2_S64x4x256x3_3_01_n_n_01_3_113.siIdx (ix4 b p n k) ⟨1, by decide⟩)).toInt.toNat 2047 + 0 + 0 = _
    rw [hs]
    rfl
  | ⟨2, _⟩ =>
    refine Fin.ext ?_
    show 0 + 0 + k.val = _
    simp [ix3]

/-- The positions of the 256 greatest entries of a row. -/
theorem topk256 (x : FVec Ideal S64x4x2048 .f32) (b : Fin 64) (p : Fin 4) (k : Fin 256) :
    (Host.topK S64x4x256 2 (FloatOps.cmpfTotal .gt) x sliceFits_S64x4x2048_S64x4x256).2 (ix3 b p k)
      = BitVec.ofNat 32 (top (fun n => x (ix3 b p n)) ⟨k.val, by omega⟩).val := by
  pointwise [Host.topK, Host.sort2]
  have h (n : Fin 2048) : Shape.Idx.along (s := S64x4x2048) (ix3 b p ⟨k.val, by omega⟩) 2 n = ix3 b p n := by
    funext c
    match c with
    | ⟨0, _⟩ => rfl
    | ⟨1, _⟩ => rfl
    | ⟨2, _⟩ => rfl
  simp only [h]
  rfl

variable (V : Valuation τ sig (Elt Ideal))

/-- The weights as the reference reads them. -/
def par : Par where
  w0 := fun i j => V (Proc.devRef .tc main_arg1) (ix2 i j)
  b0 := fun j => V (Proc.devRef .tc main_arg2) (ix1 j)
  w1 := fun i j => V (Proc.devRef .tc main_arg3) (ix2 i j)
  b1 := fun j => V (Proc.devRef .tc main_arg4) (ix1 j)
  w2 := fun i j => V (Proc.devRef .tc main_arg5) (ix2 i j)
  b2 := fun j => V (Proc.devRef .tc main_arg6) (ix1 j)
  w3 := fun i j => V (Proc.devRef .tc main_arg7) (ix2 i j)
  b3 := fun j => V (Proc.devRef .tc main_arg8) (ix1 j)
  w4 := fun i j => V (Proc.devRef .tc main_arg9) (ix2 i j)
  b4 := fun j => V (Proc.devRef .tc main_arg10) (ix1 j)
  v0 := fun i j => V (Proc.devRef .tc main_arg11) (ix2 i j)
  c0 := fun j => V (Proc.devRef .tc main_arg12) (ix1 j)
  v1 := fun i j => V (Proc.devRef .tc main_arg13) (ix2 i j)
  c1 := fun j => V (Proc.devRef .tc main_arg14) (ix1 j)
  v2 := fun i j => V (Proc.devRef .tc main_arg15) (ix2 i j)
  c2 := fun j => V (Proc.devRef .tc main_arg16) (ix1 j)
  v3 := fun i j => V (Proc.devRef .tc main_arg17) (ix2 i j)
  c3 := fun j => V (Proc.devRef .tc main_arg18) (ix1 j)
  sigma := V (Proc.devRef .tc main_arg19) ix0

theorem near_at (b : Fin 64) (p : Fin 4) (k : Fin 256) :
    res_main_indices_29 V (ix3 b p k) = BitVec.ofNat 32 (knn (cloud V b) p k).val := by
  unfold res_main_indices_29
  rw [topk256]
  simp only [v110_at]
  rfl

theorem v126_at (b : Fin 64) (p : Fin 4) (k : Fin 256) (c : Fin 3) :
    res_main_v126 V (ix4 b p k c) = cloud V b (knn (cloud V b) p k) c := by
  unfold res_main_v126 res_main_v111 res_main_v86
  rw [gather3]
  pointwise
  simp only [v0_at, near_at]
  rw [wrap_ofNat _ (by omega), wrap_ofNat _ (by omega), clampTo_ofNat _ _ (by omega), clampTo_ofNat _ _ (by omega)]

theorem v130_at (b : Fin 64) (p : Fin 4) (u : Fin 1) (c : Fin 3) : res_main_v130 V (ix4 b p u c) = mean (cloud V b) p c := by
  unfold res_main_v130
  pointwise
  simp only [v126_at]
  rfl

theorem v132_at (b : Fin 64) (p : Fin 4) (k : Fin 256) (c : Fin 3) :
    res_main_v132 V (ix4 b p k c) = cen (cloud V b) p (knn (cloud V b) p k) c := by
  unfold res_main_v132
  pointwise
  simp only [v126_at, v130_at]
  rfl

theorem v140_at (b : Fin 64) (p : Fin 4) (u v : Fin 1) : res_main_v140 V (ix4 b p u v) = norm (cloud V b) p := by
  unfold res_main_v140
  pointwise
  simp only [v132_at]
  rfl

theorem v142_at (b : Fin 64) (p : Fin 4) (k : Fin 256) (c : Fin 3) :
    res_main_v142 V (ix4 b p k c) = pat (cloud V b) p (knn (cloud V b) p k) c := by
  unfold res_main_v142
  pointwise
  simp only [v132_at, v140_at]
  rfl

end Cert.Proof.RefSimp

end
-- ==== Proof.RefNet.lean ====
/- The networks of the reference, read at an index. -/
module

public import proofs.«01_k».proof.Proof.RefSimp

@[expose] public section

noncomputable section

namespace Cert.Proof.RefNet

open Idealize.ShloMosaic Cert.ReferenceIdeal Cert.ReferenceIdeal.Gen Cert.ReferenceIdeal.Value Cert.Proof.Spec Cert.Proof.RefSeeds Cert.Proof.RefSimp

/-- The layers of the first network, by their widths. -/
theorem layer3x64 (x : FVec Ideal S64x4x256x3 .f32) (w : FVec Ideal S3x64 .f32) (c : FVec Ideal S64 .f32) (b : Fin 64) (p : Fin 4) (k : Fin 256) (j : Fin 64) :
    (maximumf (addf (Host.dotGeneral dot_S64x4x256x3_S3x64_S64x4x256x64_3_0_012_1_n_n none x w) (broadcastInDim S64x4x256x64 ![0, 1, 2, 3] bcast_S1x1x1x64_S64x4x256x64_0_1_2_3 (broadcastInDim S1x1x1x64 ![3] bcast_S64_S1x1x1x64_3 c))) (broadcastInDim S64x4x256x64 ![] bcast_S_S64x4x256x64 (constant S_ .f32 0x00000000#32)) : FVec Ideal S64x4x256x64 .f32) (ix4 b p k j)
      = layer (fun i j => w (ix2 i j)) (fun j => c (ix1 j)) (fun i => x (ix4 b p k i)) j := by
  pointwise
  rfl

theorem layer64x64 (x : FVec Ideal S64x4x256x64 .f32) (w : FVec Ideal S64x64 .f32) (c : FVec Ideal S64 .f32) (b : Fin 64) (p : Fin 4) (k : Fin 256) (j : Fin 64) :
    (maximumf (addf (Host.dotGeneral dot_S64x4x256x64_S64x64_S64x4x256x64_3_0_012_1_n_n none x w) (broadcastInDim S64x4x256x64 ![0, 1, 2, 3] bcast_S1x1x1x64_S64x4x256x64_0_1_2_3 (broadcastInDim S1x1x1x64 ![3] bcast_S64_S1x1x1x64_3 c))) (broadcastInDim S64x4x256x64 ![] bcast_S_S64x4x256x64 (constant S_ .f32 0x00000000#32)) : FVec Ideal S64x4x256x64 .f32) (ix4 b p k j)
      = layer (fun i j => w (ix2 i j)) (fun j => c (ix1 j)) (fun i => x (ix4 b p k i)) j := by
  pointwise
  rfl

theorem layer64x128 (x : FVec Ideal S64x4x256x64 .f32) (w : FVec Ideal S64x128 .f32) (c : FVec Ideal S128 .f32) (b : Fin 64) (p : Fin 4) (k : Fin 256) (j : Fin 128) :
    (maximumf (addf (Host.dotGeneral dot_S64x4x256x64_S64x128_S64x4x256x128_3_0_012_1_n_n none x w) (broadcastInDim S64x4x256x128 ![0, 1, 2, 3] bcast_S1x1x1x128_S64x4x256x128_0_1_2_3 (broadcastInDim S1x1x1x128 ![3] bcast_S128_S1x1x1x128_3 c))) (broadcastInDim S64x4x256x128 ![] bcast_S_S64x4x256x128 (constant S_ .f32 0x00000000#32)) : FVec Ideal S64x4x256x128 .f32) (ix4 b p k j)
      = layer (fun i j => w (ix2 i j)) (fun j => c (ix1 j)) (fun i => x (ix4 b p k i)) j := by
  pointwise
  rfl

theorem layer128x128 (x : FVec Ideal S64x4x256x128 .f32) (w : FVec Ideal S128x128 .f32) (c : FVec Ideal S128 .f32) (b : Fin 64) (p : Fin 4) (k : Fin 256) (j : Fin 128) :
    (maximumf (addf (Host.dotGeneral dot_S64x4x256x128_S128x128_S64x4x256x128_3_0_012_1_n_n none x w) (broadcastInDim S64x4x256x128 ![0, 1, 2, 3] bcast_S1x1x1x128_S64x4x256x128_0_1_2_3 (broadcastInDim S1x1x1x128 ![3] bcast_S128_S1x1x1x128_3 c))) (broadcastInDim S64x4x256x128 ![] bcast_S_S64x4x256x128 (constant S_ .f32 0x00000000#32)) : FVec Ideal S64x4x256x128 .f32) (ix4 b p k j)
      = layer (fun i j => w (ix2 i j)) (fun j => c (ix1 j)) (fun i => x (ix4 b p k i)) j := by
  pointwise
  rfl

/-- The greatest of a patch. -/
theorem pool128 (x : FVec Ideal S64x4x256x128 .f32) (b : Fin 64) (p : Fin 4) (j : Fin 128) :
    (Host.reduce FloatOps.maximumf x (constant S_ .f32 0xFF800000#32) reducesTo_S64x4x256x128_S64x4x128_d2 h_S_ : FVec Ideal S64x4x128 .f32) (ix3 b p j)
      = Finset.univ.fold max (Ideal.ofBits .f32 0xFF800000#32) fun k => x (ix4 b p k j) := by
  pointwise

/-- The layers of the second network. -/
theorem layer128x256 (x : FVec Ideal S64x4x128 .f32) (w : FVec Ideal S128x256 .f32) (c : FVec Ideal S256 .f32) (b : Fin 64) (p : Fin 4) (j : Fin 256) :
    (maximumf (addf (Host.dotGeneral dot_S64x4x128_S128x256_S64x4x256_2_0_01_1_n_n none x w) (broadcastInDim S64x4x256 ![0, 1, 2] bcast_S1x1x256_S64x4x256_0_1_2 (broadcastInDim S1x1x256 ![2] bcast_S256_S1x1x256_2 c))) (broadcastInDim S64x4x256 ![] bcast_S_S64x4x256 (constant S_ .f32 0x00000000#32)) : FVec Ideal S64x4x256 .f32) (ix3 b p j)
      = layer (fun i j => w (ix2 i j)) (fun j => c (ix1 j)) (fun i => x (ix3 b p i)) j := by
  pointwise
  rfl

theorem layer256x256 (x : FVec Ideal S64x4x256 .f32) (w : FVec Ideal S256x256 .f32) (c : FVec Ideal S256 .f32) (b : Fin 64) (p : Fin 4) (j : Fin 256) :
    (maximumf (addf (Host.dotGeneral dot_S64x4x256_S256x256_S64x4x256_2_0_01_1_n_n none x w) (broadcastInDim S64x4x256 ![0, 1, 2] bcast_S1x1x256_S64x4x256_0_1_2 (broadcastInDim S1x1x256 ![2] bcast_S256_S1x1x256_2 c))) (broadcastInDim S64x4x256 ![] bcast_S_S64x4x256 (constant S_ .f32 0x00000000#32)) : FVec Ideal S64x4x256 .f32) (ix3 b p j)
      = layer (fun i j => w (ix2 i j)) (fun j => c (ix1 j)) (fun i => x (ix3 b p i)) j := by
  pointwise
  rfl

theorem dense256x48 (x : FVec Ideal S64x4x256 .f32) (w : FVec Ideal S256x48 .f32) (c : FVec Ideal S48 .f32) (b : Fin 64) (p : Fin 4) (j : Fin 48) :
    (addf (Host.dotGeneral dot_S64x4x256_S256x48_S64x4x48_2_0_01_1_n_n none x w) (broadcastInDim S64x4x48 ![0, 1, 2] bcast_S1x1x48_S64x4x48_0_1_2 (broadcastInDim S1x1x48 ![2] bcast_S48_S1x1x48_2 c)) : FVec Ideal S64x4x48 .f32) (ix3 b p j)
      = dense (fun i j => w (ix2 i j)) (fun j => c (ix1 j)) (fun i => x (ix3 b p i)) j := by
  pointwise
  rfl

/-- Sixteen points of three coordinates from one row. -/
theorem split48 (x : FVec Ideal S64x4x48 .f32) (b : Fin 64) (p : Fin 4) (o : Fin 16) (c : Fin 3) :
    (shapeCast S64x4x16x3 x shapeCasts_S64x4x48_S64x4x16x3 : FVec Ideal S64x4x16x3 .f32) (ix4 b p o c) = x (ix3 b p ⟨o.val * 3 + c.val, by omega⟩) := by
  pointwise

variable (V : Valuation τ sig (Elt Ideal))

/-- What the networks make of every patch. -/
theorem v188_at (b : Fin 64) (p : Fin 4) (o : Fin 16) (c : Fin 3) :
    res_main_v188 V (ix4 b p o c) = net (par V) (cloud V b) p o c := by
  unfold res_main_v188
  refine (split48 _ b p o c).trans ((dense256x48 _ _ _ _ _ _).trans ?_)
  refine congrArg (fun h => dense (par V).v3 (par V).c3 h _) (funext fun j => ?_)
  refine (layer256x256 _ _ _ _ _ _).trans (congrArg (fun h => layer (par V).v2 (par V).c2 h j) (funext fun j => ?_))
  refine (layer256x256 _ _ _ _ _ _).trans (congrArg (fun h => layer (par V).v1 (par V).c1 h j) (funext fun j => ?_))
  refine (layer128x256 _ _ _ _ _ _).trans (congrArg (fun h => layer (par V).v0 (par V).c0 h j) (funext fun j => ?_))
  refine (pool128 _ _ _ _).trans (congrArg (fun h => Finset.univ.fold max _ h) (funext fun k => ?_))
  refine (layer128x128 _ _ _ _ _ _ _).trans (congrArg (fun h => layer (par V).w4 (par V).b4 h j) (funext fun j => ?_))
  refine (layer64x128 _ _ _ _ _ _ _).trans (congrArg (fun h => layer (par V).w3 (par V).b3 h j) (funext fun j => ?_))
  refine (layer64x64 _ _ _ _ _ _ _).trans (congrArg (fun h => layer (par V).w2 (par V).b2 h j) (funext fun j => ?_))
  refine (layer64x64 _ _ _ _ _ _ _).trans (congrArg (fun h => layer (par V).w1 (par V).b1 h j) (funext fun j => ?_))
  refine (layer3x64 _ _ _ _ _ _ _).trans (congrArg (fun h => layer (par V).w0 (par V).b0 h j) (funext fun c => ?_))
  exact v142_at V b p k c

theorem join64 (x : FVec Ideal S64x4x16x3 .f32) (b : Fin 64) (q : Fin 64) (c : Fin 3) :
    (shapeCast S64x64x3 x shapeCasts_S64x4x16x3_S64x64x3 : FVec Ideal S64x64x3 .f32) (ix3 b q c) = x (ix4 b ⟨q.val / 16, by omega⟩ ⟨q.val % 16, by omega⟩ c) := by
  pointwise

/-- A patch put back at its place and size. -/
theorem place64 (x : FVec Ideal S64x4x16x3 .f32) (y : FVec Ideal S64x4x1x1 .f32) (z : FVec Ideal S64x4x1x3 .f32) (b : Fin 64) (p : Fin 4) (o : Fin 16) (c : Fin 3) :
    (addf (mulf x (broadcastInDim S64x4x16x3 ![0, 1, 2, 3] bcast_S64x4x1x1_S64x4x16x3_0_1_2_3 y)) (broadcastInDim S64x4x16x3 ![0, 1, 2, 3] bcast_S64x4x1x3_S64x4x16x3_0_1_2_3 z) : FVec Ideal S64x4x16x3 .f32) (ix4 b p o c)
      = x (ix4 b p o c) * y (ix4 b p 0 0) + z (ix4 b p 0 c) := by
  pointwise

/-- The simplified points. -/
theorem simp_at (b : Fin 64) (q : Fin 64) (c : Fin 3) :
    (shapeCast S64x64x3 (addf (mulf (res_main_v188 V) (broadcastInDim S64x4x16x3 ![0, 1, 2, 3] bcast_S64x4x1x1_S64x4x16x3_0_1_2_3 (res_main_v140 V))) (broadcastInDim S64x4x16x3 ![0, 1, 2, 3] bcast_S64x4x1x3_S64x4x16x3_0_1_2_3 (res_main_v130 V))) shapeCasts_S64x4x16x3_S64x64x3 : FVec Ideal S64x64x3 .f32) (ix3 b q c)
      = simp (par V) (cloud V b) ⟨q.val / 16, by omega⟩ ⟨q.val % 16, by omega⟩ c := by
  refine (join64 _ b q c).trans ((place64 _ _ _ _ _ _ _).trans ?_)
  rw [v188_at, v140_at, v130_at]
  rfl

end Cert.Proof.RefNet

end
-- ==== Proof.lean ====
/- The claims of the certificate, put together. -/
module

public import proofs.«01_k».proof.Defs
public import proofs.«01_k».proof.Proof.BitsRun
public import proofs.«01_k».proof.Proof.IdealRun
public import proofs.«01_k».proof.Proof.Entries
public import proofs.«01_k».proof.Proof.Params
public import proofs.«01_k».proof.Proof.Precond
public import proofs.«01_k».proof.Proof.RefNet
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run returns with its arguments unchanged; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The one name that the table gives: `far` is `⊤`. -/
theorem preserves : Cert.preserves_Kernel_KernelIdeal :=
  IdealRules.named_const.statement Cert.KernelIdeal.κ "far" .f32 0x7149F2CA#32 ⊤ rfl

/-- The simplified points that the kernel leaves. -/
theorem simpArr_at (m : (ℓ : Loc Cert.KernelIdeal.nD Cert.KernelIdeal.τ Cert.KernelIdeal.sig) → Buf (Elt Ideal) ℓ) (c : Dev Cert.KernelIdeal.nD)
    (i : Cert.KernelIdeal.S64x64x3.Idx) (h : ∀ p, KernelSearch.Apart (Entries.cloudOf m c (i 0)) p) :
    Arrays.simpArr m c i = Spec.simp (Params.parOf m c) (Entries.cloudOf m c (i 0)) (KernelSimp.patch (i 1)) (KernelSimp.spot (i 1)) (i 2) :=
  KernelSimp.simpOut_at (Entries.holds m c (Arrays.point (i 0))) h (Params.weights m c (Arrays.point (i 0))) (i 1) (i 2)

/-- Both programs end with the same simplified points and the same seeds. -/
theorem algebraic : Cert.algebraic_KernelIdeal_ReferenceIdeal_pre_patches_apart := fun m ρ m' ρ' pre same => by
  have cloud (c) (b : Fin 64) : RefSeeds.cloud (StableHlo.launchContents m' c) b = Entries.cloudOf m c b := by
    funext n k
    exact congrFun (same c).1 _
  have par (c) : RefSimp.par (StableHlo.launchContents m' c) = Params.parOf m c := by
    obtain ⟨_, e1, e2, e3, e4, e5, e6, e7, e8, e9, e10, e11, e12, e13, e14, e15, e16, e17, e18, e19⟩ := same c
    unfold Params.parOf
    rw [← e1, ← e2, ← e3, ← e4, ← e5, ← e6, ← e7, ← e8, ← e9, ← e10, ← e11, ← e12, ← e13, ← e14, ← e15, ← e16, ← e17, ← e18, ← e19]
    rfl
  have clear (c) (b : Fin 64) (p : Fin 4) : KernelSearch.Apart (RefSeeds.cloud (StableHlo.launchContents m' c) b) p :=
    Precond.apart (StableHlo.launchContents m' c) (same c).1 (pre c) b p
  refine ⟨fun c => Arrays.simpArr m c, fun c => Arrays.seedsArr m c,
    (θ_run Cert.KernelIdeal.defs _ _).mono (fun r h c => ⟨(h.1 c).2.1, (h.1 c).2.2, h.2 c⟩) (θ_run_and (Arrays.run m ρ) (IdealRun.unchanged m ρ)),
    (θ_run Cert.ReferenceIdeal.defs _ _).mono (fun r h c => ⟨(h c).1.trans ?_, (h c).2.1.trans ?_, (h c).2.2⟩)
      (Cert.ReferenceIdeal.Value.run (F := Ideal) m' ρ')⟩
  · funext i
    have e : (ix3 (i 0) (i 1) (i 2) : Cert.ReferenceIdeal.S64x64x3.Idx) = i := by
      funext a
      match a with
      | ⟨0, _⟩ => rfl
      | ⟨1, _⟩ => rfl
      | ⟨2, _⟩ => rfl
    refine (congrArg _ e.symm).trans ((RefNet.simp_at _ (i 0) (i 1) (i 2)).trans ?_)
    have hc : RefSeeds.cloud (StableHlo.launchContents m' c) (i 0) = Entries.cloudOf m c (i 0) := cloud c (i 0)
    rw [par c, hc]
    exact (simpArr_at m c i fun p => hc ▸ clear c (i 0) p).symm
  · funext i
    have e : (ix3 (i 0) (i 1) (i 2) : Cert.ReferenceIdeal.S64x4x3.Idx) = i := by
      funext a
      match a with
      | ⟨0, _⟩ => rfl
      | ⟨1, _⟩ => rfl
      | ⟨2, _⟩ => rfl
    refine (congrArg _ e.symm).trans ((RefSeeds.seeds_at _ (i 0) (i 1) (i 2)).trans ?_)
    have hc : RefSeeds.cloud (StableHlo.launchContents m' c) (i 0) = Entries.cloudOf m c (i 0) := cloud c (i 0)
    rw [hc]
    exact (Entries.seedsArr_at m c i).symm

theorem claim : Cert.Claim := ⟨Cert.Kernel.Gen.facts, Cert.KernelIdeal.Gen.facts, Cert.ReferenceIdeal.Gen.facts, Precond.facts,
  fun m ρ _ => BitsRun.frame m ρ, fun m ρ _ => IdealRun.frame m ρ, fun m ρ _ => IdealRun.frame m ρ,
  frame_reference, fun m ρ _ => frame_reference m ρ trivial, preserves, algebraic⟩

end Cert.Proof

end
